-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x2880 : Shape := ⟨3, ![3, 640, 2880]⟩
abbrev S3x20x90 : Shape := ⟨3, ![3, 20, 90]⟩
abbrev S3x640x1920 : Shape := ⟨3, ![3, 640, 1920]⟩
abbrev S3x2880x640 : Shape := ⟨3, ![3, 2880, 640]⟩
abbrev S2880x1920 : Shape := ⟨2, ![2880, 1920]⟩
abbrev S3x20x1920 : Shape := ⟨3, ![3, 20, 1920]⟩
abbrev S3x640x256 : Shape := ⟨3, ![3, 640, 256]⟩
abbrev S2880x256 : Shape := ⟨2, ![2880, 256]⟩
abbrev S3x20x256 : Shape := ⟨3, ![3, 20, 256]⟩
abbrev S1920x256 : Shape := ⟨2, ![1920, 256]⟩
abbrev S20x640 : Shape := ⟨2, ![20, 640]⟩
abbrev S1x20x90 : Shape := ⟨3, ![1, 20, 90]⟩
abbrev S20x90 : Shape := ⟨2, ![20, 90]⟩
abbrev S90x640 : Shape := ⟨2, ![90, 640]⟩
abbrev S1x32x640 : Shape := ⟨3, ![1, 32, 640]⟩
abbrev S32x640 : Shape := ⟨2, ![32, 640]⟩
abbrev S1x640 : Shape := ⟨2, ![1, 640]⟩
abbrev S1x640x128 : Shape := ⟨3, ![1, 640, 128]⟩
abbrev S640x128 : Shape := ⟨2, ![640, 128]⟩
abbrev S20x32x128 : Shape := ⟨3, ![20, 32, 128]⟩
abbrev S20x128 : Shape := ⟨2, ![20, 128]⟩
abbrev S1x20x128 : Shape := ⟨3, ![1, 20, 128]⟩
abbrev S32x128 : Shape := ⟨2, ![32, 128]⟩
abbrev S1x128 : Shape := ⟨2, ![1, 128]⟩
abbrev S1x32x128 : Shape := ⟨3, ![1, 32, 128]⟩
abbrev S3x20x60 : Shape := ⟨3, ![3, 20, 60]⟩

abbrev nBuf : Space → Nat
  | .hbm => 8
  | .vmem => 12
  | .smem => 0
  | _ => 0

abbrev bufTy : (tb : Table) → Fin (tcTables nBuf tb) → BufTy
  | .hbm, ⟨0, _⟩ => ⟨S3x640x2880, .i8⟩
  | .hbm, ⟨1, _⟩ => ⟨S3x20x90, .f32⟩
  | .hbm, ⟨2, _⟩ => ⟨S3x640x1920, .bf16⟩
  | .hbm, ⟨3, _⟩ => ⟨S3x2880x640, .i8⟩
  | .hbm, ⟨4, _⟩ => ⟨S2880x1920, .f32⟩
  | .hbm, ⟨5, _⟩ => ⟨S3x640x1920, .i8⟩
  | .hbm, ⟨6, _⟩ => ⟨S3x20x1920, .f32⟩
  | .hbm, ⟨7, _⟩ => ⟨S3x20x60, .f32⟩
  | .local _ .vmem, ⟨0, _⟩ => ⟨S3x2880x640, .i8⟩
  | .local _ .vmem, ⟨1, _⟩ => ⟨S3x20x90, .f32⟩
  | .local _ .vmem, ⟨2, _⟩ => ⟨S3x640x256, .bf16⟩
  | .local _ .vmem, ⟨3, _⟩ => ⟨S3x640x256, .bf16⟩
  | .local _ .vmem, ⟨4, _⟩ => ⟨S2880x256, .f32⟩
  | .local _ .vmem, ⟨5, _⟩ => ⟨S2880x256, .f32⟩
  | .local _ .vmem, ⟨6, _⟩ => ⟨S3x640x256, .i8⟩
  | .local _ .vmem, ⟨7, _⟩ => ⟨S3x640x256, .i8⟩
  | .local _ .vmem, ⟨8, _⟩ => ⟨S3x20x256, .f32⟩
  | .local _ .vmem, ⟨9, _⟩ => ⟨S3x20x256, .f32⟩
  | .local _ .vmem, ⟨10, _⟩ => ⟨S2880x1920, .bf16⟩
  | .local _ .vmem, ⟨11, _⟩ => ⟨S1920x256, .bf16⟩
  | _, _ => ⟨S3x640x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S3x2880x640 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x20x90 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2880x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x640x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x20x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_127" => some ((1 / 127 : ℝ) : EReal)
  | _ => none
-- ==== ReferenceIdeal.lean ====
abbrev S3x640x2880 : Shape := ⟨3, ![3, 640, 2880]⟩
abbrev S3x20x90 : Shape := ⟨3, ![3, 20, 90]⟩
abbrev S3x640x1920 : Shape := ⟨3, ![3, 640, 1920]⟩
abbrev S2880x1920 : Shape := ⟨2, ![2880, 1920]⟩
abbrev S3x20x60 : Shape := ⟨3, ![3, 20, 60]⟩
abbrev S3x20x32x1920 : Shape := ⟨4, ![3, 20, 32, 1920]⟩
abbrev S3x20x1920 : Shape := ⟨3, ![3, 20, 1920]⟩
abbrev S3x20x60x32 : Shape := ⟨4, ![3, 20, 60, 32]⟩
abbrev S3x20x60x1 : Shape := ⟨4, ![3, 20, 60, 1]⟩
abbrev S3x20x1x1920 : Shape := ⟨4, ![3, 20, 1, 1920]⟩
abbrev S3x20x32x2880 : Shape := ⟨4, ![3, 20, 32, 2880]⟩
abbrev S3x20x90x1 : Shape := ⟨4, ![3, 20, 90, 1]⟩
abbrev S3x20x90x32 : Shape := ⟨4, ![3, 20, 90, 32]⟩
abbrev S3x20x2880 : Shape := ⟨3, ![3, 20, 2880]⟩
abbrev S3x20x1x2880 : Shape := ⟨4, ![3, 20, 1, 2880]⟩
abbrev S1920x2880 : Shape := ⟨2, ![1920, 2880]⟩
abbrev S1920x1920 : Shape := ⟨2, ![1920, 1920]⟩

abbrev nBuf : Space → Nat
  | .hbm => 6
  | .vmem => 6
  | .smem => 0
  | _ => 0

abbrev bufTy : (tb : Table) → Fin (tcTables nBuf tb) → BufTy
  | .hbm, ⟨0, _⟩ => ⟨S3x640x2880, .i8⟩
  | .hbm, ⟨1, _⟩ => ⟨S3x20x90, .f32⟩
  | .hbm, ⟨2, _⟩ => ⟨S3x640x1920, .bf16⟩
  | .hbm, ⟨3, _⟩ => ⟨S2880x1920, .f32⟩
  | .hbm, ⟨4, _⟩ => ⟨S3x640x1920, .i8⟩
  | .hbm, ⟨5, _⟩ => ⟨S3x20x60, .f32⟩
  | .local _ .vmem, ⟨0, _⟩ => ⟨S3x640x2880, .i8⟩
  | .local _ .vmem, ⟨1, _⟩ => ⟨S3x20x90, .f32⟩
  | .local _ .vmem, ⟨2, _⟩ => ⟨S3x640x1920, .bf16⟩
  | .local _ .vmem, ⟨3, _⟩ => ⟨S2880x1920, .f32⟩
  | .local _ .vmem, ⟨4, _⟩ => ⟨S3x640x1920, .i8⟩
  | .local _ .vmem, ⟨5, _⟩ => ⟨S3x20x60, .f32⟩
  | _, _ => ⟨S3x640x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x2880 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x20x90 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2880x1920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x1920 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x20x60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
module

public import proofs.«01_k».proof.Proof.Gen.Kernel.Skeleton
public import proofs.«01_k».proof.Proof.Gen.Kernel.Frame
public import Idealize.ShloMosaic.Lib.Tactic

@[expose] public section

set_option maxRecDepth 16384

noncomputable section

namespace Cert.KernelFrame

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the first-point branch at grid point `i`. -/
abbrev isFirst (i : grid0.Coords) : Prop :=
  Scalar.cmpi .ne (Scalar.extui (Scalar.cmpi .eq (BitVec.ofNat 32 (i 0).val) 0#32) : BitVec 32) 0#32 = 1#1

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body at any point: it runs, leaves the three input buffers as they are, and leaves something in the five others. -/
theorem run (c : Dev nD) (i : grid0.Coords)
    (M1 : Memref sig .tc .vmem S3x2880x640 .i8) (h1 : M1.IsWhole) (M2 : Memref sig .tc .vmem S3x20x90 .f32) (h2 : M2.IsWhole)
    (M3 : Memref sig .tc .vmem S3x640x256 .bf16) (h3 : M3.IsWhole) (M4 : Memref sig .tc .vmem S2880x256 .f32) (h4 : M4.IsWhole)
    (M5 : Memref sig .tc .vmem S3x640x256 .i8) (h5 : M5.IsWhole) (M6 : Memref sig .tc .vmem S3x20x256 .f32) (h6 : M6.IsWhole)
    (M7 : Memref sig .tc .vmem S2880x1920 .bf16) (h7 : M7.IsWhole) (M8 : Memref sig .tc .vmem S1920x256 .bf16) (h8 : M8.IsWhole)
    (f1 f2 f3 f4 f5 f6 f7 f8) (E : Set ℕ) (Q : PUnit → sProp 𝕄) :
    iprop(pt (F := F) c M1 f1 ∗ pt c M2 f2 ∗ pt c M3 f3 ∗ pt c M4 f4 ∗ pt c M5 f5 ∗ pt c M6 f6 ∗ pt c M7 f7 ∗ pt c M8 f8
          ∗ (iprop(pt c M1 f1 ∗ pt c M2 f2 ∗ pt c M3 f3 ∗ (∃ f, pt c M4 f) ∗ (∃ f, pt c M5 f) ∗ (∃ f, pt c M6 f) ∗ (∃ f, pt c M7 f) ∗ (∃ f, pt c M8 f)) -∗ Q ⟨⟩))
        ⊢ wp frame (wpE (defs₀ (F := F)) Variants.none c none) E
            (cc0_jetfire_dw i M1 h1 M2 h2 M3 h3 M4 h4 M5 h5 M6 h6 M7 h7 M8 h8) Q := by
  by_cases hi : isFirst i
  all_goals
    iintro ⟨H1, H2, H3, H4, H5, H6, H7, H8, Hk⟩
    sl_exec_parts! (disch := exact hi)
    sl_step
    iapply Hk
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iexists _; iexact H8

end Cert.KernelFrame

end
-- ==== Proof.KernelFrame.lean ====
module

public import proofs.«01_k».proof.Proof.KernelRun

@[expose] public section

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

/-! # The kernel runs and leaves its arguments unchanged

Nothing is said here of what the outputs hold: their staging buffers are handed to the body at any contents and taken
back at any contents. -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gradient's staging buffer at a point, its columns past the array's end filled with zero words. -/
def dyBlk (c : Dev nD) (t : Fin cfg0.N) : S3x640x256.Idx → Elt F .bf16 :=
  win0_2.fill (grid0.coords t) (fun _ => Scalar.ofBits .bf16 0#16) (iblk m c 2 t)

/-- The windows whose contents are not tracked: the three outputs. -/
def forgotten : Fin cfg0.W → Bool
  | ⟨0, _⟩ => false
  | ⟨1, _⟩ => false
  | ⟨2, _⟩ => false
  | ⟨_ + 3, _⟩ => true

/-- The proof data: each input's buffer keeps its block; nothing is said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dyBlk m c t
    | ⟨3, _⟩ => fun _ => Scalar.ofBits .f32 0#32
    | ⟨4, _⟩ => fun _ => 0#8
    | ⟨5, _⟩ => fun _ => Scalar.ofBits .f32 0#32
  Φ _ := Pipeline.ΦA spec0 c
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) :
    (dats m 0 c).before 2 t d = win0_2.fill (grid0.coords t) d (iblk m c 2 t) := by
  unfold Dat.before; rw [if_pos (fetch0_2 t)]; rfl

theorem defs₀_row (t : Fin cfg0.N) : defs₀ (F := F) .tc cfg0.body (cfg0.bodyArgs t (cfg0.slots t)) = bodyAt0 t := by
  unfold defs₀; rw [Defs.onTc_tc]

/-- Owning a whole memref is holding its buffer whole. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  unfold owns pt; rw [hM.set_eq_univ]

set_option maxHeartbeats 800000 in
/-- The body at a point: the inputs' buffers keep what they hold, everything else holds something. -/
theorem body_obligation (c : Dev nD) :
    BodyObligationLoose (dats (F := F) m 0 c) defs₀ Variants.none () Set.univ forgotten := by
  intro t
  rw [bigSep_W0, bigSep_W0, defs₀_row]
  simp only [forgotten]
  have hΦ : ∀ s, (dats (F := F) m 0 c).Φ s
      = iprop(((∃ f, pt c (Memref.whole cc0_scratch0) f) ∗ (∃ f, pt c (Memref.whole cc0_scratch1) f)) ∗ ∃ r, prngReg c r) := fun _ => by
    show Pipeline.ΦA spec0 c = _
    unfold Pipeline.ΦA; rw [scopedRest0_eq]
  simp only [hΦ]
  have w0 := owns_pt (F := F) c ((cfg0.win 0).stage (cfg0.slots t 0)) (hstage0_0 ((cfg0.slots t 0).cast nbuf0_0))
  have w1 := owns_pt (F := F) c ((cfg0.win 1).stage (cfg0.slots t 1)) (hstage0_1 ((cfg0.slots t 1).cast nbuf0_1))
  have w2 := owns_pt (F := F) c ((cfg0.win 2).stage (cfg0.slots t 2)) (hstage0_2 ((cfg0.slots t 2).cast nbuf0_2))
  have w3 := owns_pt (F := F) c ((cfg0.win 3).stage (cfg0.slots t 3)) (hstage0_3 ((cfg0.slots t 3).cast nbuf0_3))
  have w4 := owns_pt (F := F) c ((cfg0.win 4).stage (cfg0.slots t 4)) (hstage0_4 ((cfg0.slots t 4).cast nbuf0_4))
  have w5 := owns_pt (F := F) c ((cfg0.win 5).stage (cfg0.slots t 5)) (hstage0_5 ((cfg0.slots t 5).cast nbuf0_5))
  simp only [w0, w1, w2, w3, w4, w5]
  iintro ⟨⟨⟨⟨%f7, H7⟩, ⟨%f8, H8⟩⟩, Hg⟩, Ho, ⟨%d0, %f1, %e1, H1⟩, ⟨%d1, %f2, %e2, H2⟩, ⟨%d2, %f3, %e3, H3⟩, ⟨%X4, %f4, %e4, H4⟩, ⟨%X5, %f5, %e5, H5⟩, ⟨%X6, %f6, %e6, H6⟩⟩
  iapply (run c (grid0.coords t) _ _ _ _ _ _ _ _ _ _ _ _ (Memref.whole cc0_scratch0) _ (Memref.whole cc0_scratch1) _ f1 f2 f3 f4 f5 f6 f7 f8 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, ⟨%g4, H4⟩, ⟨%g5, H5⟩, ⟨%g6, H6⟩, ⟨%g7, H7⟩, ⟨%g8, H8⟩⟩
  isplitl [H7 H8 Hg]
  · isplitl [H7 H8]
    · isplitl [H7]; · iexists g7; iexact H7
      iexists g8; iexact H8
    · iexact Hg
  isplitl [Ho]; · iexact Ho
  isplitl [H1]
  · iexists f1; isplitr; · ipureintro; rw [e1, before_0]; rfl
    iexact H1
  isplitl [H2]
  · iexists f2; isplitr; · ipureintro; rw [e2, before_1]; rfl
    iexact H2
  isplitl [H3]
  · iexists d2, f3; isplitr
    · ipureintro; rw [e3, before_2]
      show _ = win0_2.fill (grid0.coords t) d2 (win0_2.cut (grid0.coords t) (dyBlk m c t))
      unfold dyBlk; rw [win0_2.cut_fill]
    iexact H3
  isplitl [H4]
  · iexists _, g4; isplitr; · ipureintro; rfl
    iexact H4
  isplitl [H5]
  · iexists _, g5; isplitr; · ipureintro; rfl
    iexact H5
  · iexists _, g6; isplitr; · ipureintro; rfl
    iexact H6

set_option backward.isDefEq.respectTransparency.types false in
set_option maxHeartbeats 800000 in
/-- The run: every execution terminates with the arguments unchanged and every semaphore at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_T_forget (Q' := _) cfgs (dats m) 0 launch0 defs₀ Variants.none forgotten {main_v2} m ρ main
    (hbody := body_obligation m)
    (hshare := fun c => (dats m 0 c).share_full fun _ => rfl) (howed := fun _ _ => rfl)
    (V₀ := V0 m) (opss := [hostOps1]) sfx_sub sfx_fresh sfx_keeps
    (hT := by
      intro ops hops op hop b hb
      simp only [List.mem_cons, List.mem_nil_iff, or_false] at hops
      subst hops
      simp only [hostOps1, List.mem_cons, List.mem_nil_iff, or_false] at hop
      subst hop
      simp only [StableHlo.unary_writes, Finset.mem_singleton] at hb
      by_contra hne
      exact StableHlo.devRef_ne_of_ne (fun h => hne (by rw [h]; exact Finset.mem_singleton_self _)) hb)
    (hmain m Variants.none) (hA := fun _ _ => rfl) (hΦ := fun _ _ => rfl)
    (hQ' := fun r h => ⟨fun c =>
      ⟨((h.1 c).2 main_arg0 (Finset.mem_sdiff.mpr ⟨Pipeline.mem_restRefs_of main_arg0 (by decide) (by decide), by decide⟩)).trans (V_main_arg0 m c),
        (Pipeline.RDat.FramePostR.arr_in h.1 c 1 rfl).trans (V_main_arg1 m c),
        (Pipeline.RDat.FramePostR.arr_in h.1 c 2 rfl).trans (V_main_arg2 m c)⟩, h.2⟩)

end Cert.KernelFrame

end
-- ==== Proof.Base.lean ====
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The condition of the first-point branch at grid point `i`. -/
abbrev isFirst (i : grid0.Coords) : Prop :=
  Scalar.cmpi .ne (Scalar.extui (Scalar.cmpi .eq (BitVec.ofNat 32 (i 0).val) 0#32) : BitVec 32) 0#32 = 1#1

end Cert.Proof

end
-- ==== Proof.Spec.lean ====
module

public import Idealize.ShloMosaic.PureOps.Ideal
public import Idealize.ShloMosaic.PureOps.Ideal.Laws

@[expose] public section

set_option maxRecDepth 16384

noncomputable section

namespace Cert.Spec

open Idealize.ShloMosaic

/-! # Quantisation in 32 × 32 blocks, over the extended reals

Arrays are functions of natural indices (batch, row, column); rows and columns are cut into blocks of 32. Everything
the kernel and the reference compute is stated with the functions of this file. -/

/-- The absolute value. -/
def absE (v : EReal) : EReal := max v (-v)

/-- The largest absolute value of block (`rb`, `g`) of batch `b`. -/
def AM (y : ℕ → ℕ → ℕ → EReal) (b rb g : ℕ) : EReal :=
  (Finset.range 32).sup fun k => (Finset.range 32).sup fun r => absE (y b (32 * rb + r) (32 * g + k))

/-- A block's scale from its largest absolute value. -/
def scaleOf (a : EReal) : EReal := if a = 0 then 1 else a * ((1 / 127 : ℝ) : EReal)

/-- The scale of a block. -/
def SC (y : ℕ → ℕ → ℕ → EReal) (b rb g : ℕ) : EReal := scaleOf (AM y b rb g)

/-- Rounding to the nearest integer, ties to even. -/
def rnd (v : EReal) : EReal := Ideal.liftRound Ideal.roundHalfEven v

/-- A value rounded and clipped to [-127, 127]. -/
def clip (v : EReal) : EReal := min (((127 : ℤ) : ℝ) : EReal) (max (((-127 : ℤ) : ℝ) : EReal) (rnd v))

/-- The code at (`b`, `r`, `c`), as a number. -/
def QC (y : ℕ → ℕ → ℕ → EReal) (b r c : ℕ) : EReal := clip (Ideal.div (y b r c) (SC y b (r / 32) (c / 32)))

/-- The dequantised value at (`b`, `r`, `c`). -/
def DQ (y : ℕ → ℕ → ℕ → EReal) (b r c : ℕ) : EReal := QC y b r c * SC y b (r / 32) (c / 32)

/-- Codes times their block's scales. -/
def XD (x s : ℕ → ℕ → ℕ → EReal) (b r c : ℕ) : EReal := x b r c * s b (r / 32) (c / 32)

/-- The weight gradient: the product of the two dequantised operands over all rows of all batches. -/
def DW (x s y : ℕ → ℕ → ℕ → EReal) (d c : ℕ) : EReal :=
  ∑ k : Fin 1920, XD x s (k.val / 640) (k.val % 640) d * DQ y (k.val / 640) (k.val % 640) c

theorem scaleOf_ne_zero (a : EReal) : scaleOf a ≠ 0 := by
  unfold scaleOf
  split
  · exact one_ne_zero
  · rename_i h
    refine mul_ne_zero h ?_
    have : (1 / 127 : ℝ) ≠ 0 := by norm_num
    exact_mod_cast this

/-- Multiplying by the reciprocal of a scale is dividing by the scale. -/
theorem mul_recip (v a : EReal) : v * Ideal.div 1 (scaleOf a) = Ideal.div v (scaleOf a) := by
  unfold Ideal.div
  rw [if_neg (scaleOf_ne_zero a), if_neg (scaleOf_ne_zero a), one_mul]

/-- Dividing by 127 is multiplying by 1/127. -/
theorem div_127 (a : EReal) : Ideal.div a ((127 : ℝ) : EReal) = a * ((1 / 127 : ℝ) : EReal) := by
  unfold Ideal.div
  have h : ((127 : ℝ) : EReal) ≠ 0 := by
    have : (127 : ℝ) ≠ 0 := by norm_num
    exact_mod_cast this
  rw [if_neg h, ← EReal.coe_inv]; norm_num

/-- A rounded and clipped value is an integer of [-127, 127]. -/
theorem clip_int (v : EReal) : ∃ n : ℤ, -127 ≤ n ∧ n ≤ 127 ∧ clip v = ((n : ℝ) : EReal) := by
  have mono : Monotone fun z : ℤ => ((z : ℝ) : EReal) := fun a b h => EReal.coe_le_coe_iff.mpr (Int.cast_le.mpr h)
  have main : ∀ z : ℤ, ∃ n : ℤ, -127 ≤ n ∧ n ≤ 127 ∧
      min (((127 : ℤ) : ℝ) : EReal) (max (((-127 : ℤ) : ℝ) : EReal) ((z : ℝ) : EReal)) = ((n : ℝ) : EReal) := fun z =>
    ⟨min 127 (max (-127) z), by omega, by omega,
      ((mono.map_min (a := 127) (b := max (-127) z)).trans (congrArg _ (mono.map_max (a := -127) (b := z)))).symm⟩
  unfold clip rnd
  induction v using EReal.rec with
  | bot => exact ⟨-127, by norm_num, by norm_num, by
      show min _ (max _ ⊥) = _
      rw [max_bot_right]; exact min_eq_right (mono (by norm_num))⟩
  | top => exact ⟨127, by norm_num, by norm_num, by
      show min _ (max _ ⊤) = _
      rw [max_top_right, min_top_right]⟩
  | coe r => exact main _

/-- Converting a rounded and clipped value to a byte and back changes nothing. -/
theorem byte_roundtrip (v : EReal) : (((Ideal.fptosi 8 (clip v)).toInt : ℝ) : EReal) = clip v := by
  obtain ⟨n, h1, h2, h⟩ := clip_int v
  rw [h]
  have hc : Ideal.toIntClamped (-(2 ^ (8 - 1) : ℕ)) ((2 ^ (8 - 1) : ℕ) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    norm_num; omega
  unfold Ideal.fptosi
  rw [hc, BitVec.toInt_ofInt]
  congr 2
  exact Int.bmod_eq_of_le (by norm_num; omega) (by norm_num; omega)

/-! ## A block depends on the block only -/

/-- Two arrays that agree on a block, one read at a column offset of whole blocks, have one scale there. -/
theorem SC_shift (y y' : ℕ → ℕ → ℕ → EReal) (b rb g g' : ℕ)
    (h : ∀ r k, r < 32 → k < 32 → y b (32 * rb + r) (32 * g + k) = y' b (32 * rb + r) (32 * g' + k)) :
    SC y b rb g = SC y' b rb g' := by
  unfold SC AM
  congr 1
  exact Finset.sup_congr rfl fun k hk => Finset.sup_congr rfl fun r hr => by
    rw [h r k (Finset.mem_range.mp hr) (Finset.mem_range.mp hk)]

/-- So they have the same codes there, -/
theorem QC_shift (y y' : ℕ → ℕ → ℕ → EReal) (b r c o : ℕ)
    (h : ∀ r' k, r' < 32 → k < 32 → y b (32 * (r / 32) + r') (32 * (c / 32) + k) = y' b (32 * (r / 32) + r') (32 * (c / 32 + o) + k)) :
    QC y b r c = QC y' b r (c + 32 * o) := by
  unfold QC
  rw [SC_shift y y' b (r / 32) (c / 32) (c / 32 + o) h, show (c + 32 * o) / 32 = c / 32 + o by omega]
  have := h (r % 32) (c % 32) (Nat.mod_lt _ (by norm_num)) (Nat.mod_lt _ (by norm_num))
  rw [show 32 * (r / 32) + r % 32 = r by omega, show 32 * (c / 32) + c % 32 = c by omega,
    show 32 * (c / 32 + o) + c % 32 = c + 32 * o by omega] at this
  rw [this]

/-- and the same dequantised values. -/
theorem DQ_shift (y y' : ℕ → ℕ → ℕ → EReal) (b r c o : ℕ)
    (h : ∀ r' k, r' < 32 → k < 32 → y b (32 * (r / 32) + r') (32 * (c / 32) + k) = y' b (32 * (r / 32) + r') (32 * (c / 32 + o) + k)) :
    DQ y b r c = DQ y' b r (c + 32 * o) := by
  unfold DQ
  rw [QC_shift y y' b r c o h, SC_shift y y' b (r / 32) (c / 32) (c / 32 + o) h, show (c + 32 * o) / 32 = c / 32 + o by omega]

/-! ## The maximum of 32 lanes by exchanges

Five exchanges, with the lanes whose number differs in one bit (16, 8, 4, 2, 1), leave in every lane the maximum of
its group of 32. -/

/-- The exchange with the lane whose number differs by the bits of `s`. -/
def swapMax (s : ℕ) (m : ℕ → EReal) (l : ℕ) : EReal := max (m l) (m (l ^^^ s))

/-- After the exchanges of `ss` each lane holds the maximum over the lanes that `reach ss` lists. -/
def reach : List ℕ → List ℕ
  | [] => [0]
  | s :: ss => reach ss ++ (reach ss).map (s ^^^ ·)

theorem swapMax_sup (s : ℕ) (S : List ℕ) (m M : ℕ → EReal) (h : ∀ l, M l = S.foldr (fun u a => max (m (l ^^^ u)) a) ⊥) (l : ℕ) :
    swapMax s M l = (S ++ S.map (s ^^^ ·)).foldr (fun u a => max (m (l ^^^ u)) a) ⊥ := by
  have app : ∀ (A B : List ℕ), (A ++ B).foldr (fun u a => max (m (l ^^^ u)) a) ⊥
      = max (A.foldr (fun u a => max (m (l ^^^ u)) a) ⊥) (B.foldr (fun u a => max (m (l ^^^ u)) a) ⊥) := by
    intro A B
    induction A with
    | nil => simp
    | cons u A ih => simp only [List.cons_append, List.foldr_cons, ih, max_assoc]
  unfold swapMax
  rw [app, h, h]
  congr 1
  rw [List.foldr_map]
  simp only [Nat.xor_assoc]

theorem le_foldr_iff (S : List ℕ) (f : ℕ → EReal) (B : EReal) :
    S.foldr (fun u a => max (f u) a) ⊥ ≤ B ↔ ∀ u ∈ S, f u ≤ B := by
  induction S with
  | nil => simp
  | cons u S ih => simp [ih]

/-- The five exchanges give the maximum of the group of 32. -/
theorem swaps (m : ℕ → EReal) (l : ℕ) (hl : l < 128) :
    swapMax 1 (swapMax 2 (swapMax 4 (swapMax 8 (swapMax 16 m)))) l
      = (Finset.range 32).sup fun k => m (32 * (l / 32) + k) := by
  have h0 : ∀ l, m l = (reach []).foldr (fun u a => max (m (l ^^^ u)) a) ⊥ := fun l => by simp [reach]
  have h5 := swapMax_sup 1 _ m _ (swapMax_sup 2 _ m _ (swapMax_sup 4 _ m _ (swapMax_sup 8 _ m _ (swapMax_sup 16 _ m _ h0)))) l
  rw [h5]
  refine eq_of_forall_ge_iff fun B => ?_
  rw [le_foldr_iff, Finset.sup_le_iff]
  have fwd : ∀ l < 128, ∀ k < 32, ∃ u ∈ reach [1, 2, 4, 8, 16], l ^^^ u = 32 * (l / 32) + k := by decide +kernel
  have bwd : ∀ l < 128, ∀ u ∈ reach [1, 2, 4, 8, 16], (l ^^^ u) / 32 = l / 32 := by decide +kernel
  constructor
  · intro h k hk
    obtain ⟨u, hu, e⟩ := fwd l hl k (Finset.mem_range.mp hk)
    rw [← e]; exact h u hu
  · intro h u hu
    have e := bwd l hl u hu
    have := h ((l ^^^ u) % 32) (Finset.mem_range.mpr (Nat.mod_lt _ (by norm_num)))
    rwa [← e, Nat.div_add_mod] at this

end Cert.Spec

end
-- ==== Proof.Chunk.lean ====
module

public import proofs.«01_k».proof.Proof.Base
public import proofs.«01_k».proof.Proof.Spec
public import Idealize.ShloMosaic.Lib.Pointwise.Tactic
public import Idealize.ShloMosaic.Lib.Pipeline.Value
public import Idealize.ShloMosaic.Lib.Pipeline.ReadBack
public import Idealize.ShloMosaic.Lib.Pipeline.ValueKit.Geometry
public import Idealize.ShloMosaic.Lib.WordCmp

@[expose] public section

set_option maxRecDepth 16384

noncomputable section

namespace Cert.Proof

open Cert.KernelIdeal Cert.KernelIdeal.Gen Cert.Spec

open Idealize.ShloMosaic

variable {F : FTy → Type} [FloatOps F] [Named F]

/-! # One chunk of 128 columns

What the kernel computes from a 640 × 128 chunk of the gradient: the scales of its 32 × 32 blocks, repeated over each
block's 32 lanes, their reciprocals, and 32 rows of codes at a time. -/

/-- Each lane's largest absolute value over every 32 rows. -/
def colMax (Y : FVec F S640x128 .bf16) : FVec F S20x128 .f32 :=
  extf .f32 (multiReduction .maximumf [1] S20x128 (shapeCast S20x32x128 (absf Y) shapeCasts_S640x128_S20x32x128) 0xFF80#16 reduces_S20x32x128_S20x128 (.inr rfl) rfl) bitsLt_bf16_f32

/-- Whether the lane's number has the bit `s`. -/
def laneBit (s : BitVec 32) : IVec S20x128 1 :=
  cmpi .ne (andi (iota .tc S20x128 32 [1] iota_S20x128_d1_w32) (broadcast S20x128 s)) (broadcast S20x128 0#32)

/-- One exchange: the maximum with the lane `a` or `b` places on. -/
def step (s a b : BitVec 32) (m : FVec F S20x128 .f32) : FVec F S20x128 .f32 :=
  maximumf m (select (laneBit s) (dynamicRotate 1 a none m rotates_S20x128_d1) (dynamicRotate 1 b none m rotates_S20x128_d1))

def grpMax (Y : FVec F S640x128 .bf16) : FVec F S20x128 .f32 :=
  step 1#32 1#32 127#32 (step 2#32 2#32 126#32 (step 4#32 4#32 124#32 (step 8#32 8#32 120#32 (step 16#32 16#32 112#32 (colMax Y)))))

/-- The scales. -/
def scaleV (Y : FVec F S640x128 .bf16) : FVec F S20x128 .f32 :=
  select (cmpf .oeq (grpMax Y) (broadcast S20x128 (Scalar.ofBits .f32 0x00000000#32))) (broadcast S20x128 (Scalar.ofBits .f32 0x3F800000#32))
    (mulf (grpMax Y) (broadcast S20x128 (Named.named κ "inv_127" 0x3C010204#32)))

def recipV (Y : FVec F S640x128 .bf16) : FVec F S20x128 .f32 :=
  divf (broadcast S20x128 (Scalar.ofBits .f32 0x3F800000#32)) (scaleV Y)

def sbV (Y : FVec F S640x128 .bf16) : FVec F S20x128 .bf16 := truncf .bf16 (scaleV Y) bitsLt_bf16_f32

/-- The rounded and clipped quotients of 32 rows. -/
def quot (Y : FVec F S640x128 .bf16) (R : FVec F S20x128 .f32) (o g : ℕ) (h : S640x128.Slices ![o, 0] S32x128) (h' : S20x128.Slices ![g, 0] S1x128) :
    FVec F S32x128 .f32 :=
  minimumf (broadcast S32x128 (Scalar.sitofp .f32 127#32)) (maximumf (broadcast S32x128 (Scalar.sitofp .f32 4294967169#32))
    (roundeven (mulf (extf .f32 (extractStridedSlice S32x128 ![o, 0] Y h) bitsLt_bf16_f32)
      (broadcastTo S32x128 (extractStridedSlice S1x128 ![g, 0] R h') broadcasts_S1x128_S32x128))))

/-- Their codes, as stored. -/
def codesV (q : FVec F S32x128 .f32) : IVec S1x32x128 8 :=
  shapeCast S1x32x128 (fptosi 8 q) shapeCasts_S32x128_S1x32x128

/-- Their values back from the codes, as stored. -/
def dydV (q : FVec F S32x128 .f32) (SB : FVec F S20x128 .bf16) (g : ℕ) (h' : S20x128.Slices ![g, 0] S1x128) : FVec F S32x128 .bf16 :=
  shapeCast S32x128 (mulf (truncf .bf16 q bitsLt_bf16_f32)
    (broadcastTo S32x128 (extractStridedSlice S1x128 ![g, 0] SB h') broadcasts_S1x128_S32x128)) shapeCasts_S32x128_S32x128

/-! ## Over the extended reals -/

/-- The chunk of batch `b` whose first column is `l`. -/
def IsChunk (y : ℕ → ℕ → ℕ → EReal) (b l : ℕ) (Y : FVec Ideal S640x128 .bf16) : Prop :=
  ∀ (r : Fin 640) (k : Fin 128), Y (ix2 r k) = y b r.val (l + k.val)

/-- Values that are the scales of a chunk. -/
def IsScale (y : ℕ → ℕ → ℕ → EReal) (b l : ℕ) {φ : FTy} (S : FVec Ideal S20x128 φ) : Prop :=
  ∀ (r : Fin 20) (k : Fin 128), S (ix2 r k) = SC y b r.val ((l + k.val) / 32)

def IsRecip (y : ℕ → ℕ → ℕ → EReal) (b l : ℕ) {φ : FTy} (S : FVec Ideal S20x128 φ) : Prop :=
  ∀ (r : Fin 20) (k : Fin 128), S (ix2 r k) = Ideal.div 1 (SC y b r.val ((l + k.val) / 32))

theorem extf_read {s : Shape} {φ ψ : FTy} (x : FVec Ideal s φ) (h : φ.bits < ψ.bits) (i : s.Idx) : extf ψ x h i = x i := rfl
theorem truncf_read {s : Shape} {φ ψ : FTy} (x : FVec Ideal s φ) (h : ψ.bits < φ.bits) (i : s.Idx) : truncf ψ x h i = x i := rfl
theorem absf_read {s : Shape} {φ : FTy} (x : FVec Ideal s φ) (i : s.Idx) : absf x i = absE (x i) := rfl
theorem mulf_read {s : Shape} {φ : FTy} (x y : FVec Ideal s φ) (i : s.Idx) : mulf x y i = (x i * y i : EReal) := rfl
theorem divf_read {s : Shape} {φ : FTy} (x y : FVec Ideal s φ) (i : s.Idx) : divf x y i = Ideal.div (x i) (y i) := rfl
theorem max_read {s : Shape} {φ : FTy} (x y : FVec Ideal s φ) (i : s.Idx) : maximumf x y i = (max (x i) (y i) : EReal) := rfl
theorem min_read {s : Shape} {φ : FTy} (x y : FVec Ideal s φ) (i : s.Idx) : minimumf x y i = (min (x i) (y i) : EReal) := rfl
theorem round_read {s : Shape} {φ : FTy} (x : FVec Ideal s φ) (i : s.Idx) : roundeven x i = rnd (x i) := rfl
theorem fptosi_read {s : Shape} {φ : FTy} (x : FVec Ideal s φ) (i : s.Idx) : fptosi 8 x i = Ideal.fptosi 8 (x i) := rfl
theorem oeq_read {s : Shape} {φ : FTy} (x y : FVec Ideal s φ) (i : s.Idx) : cmpf .oeq x y i = BitVec.ofBool (decide ((x i : EReal) = y i)) := rfl
theorem broadcast_read {s : Shape} {α : Type} (v : α) (i : s.Idx) : broadcast s v i = v := rfl
theorem ofBits_read {φ : FTy} (b : BitVec φ.bits) : (Scalar.ofBits φ b : Ideal φ) = Ideal.ofBits φ b := rfl
theorem sitofp_read {φ : FTy} {w : ℕ} (b : BitVec w) : (Scalar.sitofp φ b : Ideal φ) = ((b.toInt : ℝ) : EReal) := rfl

theorem bot_bf16 : (Ideal.ofBits .bf16 0xFF80#16) = ⊥ := by
  simp [Ideal.ofBits, Ideal.ieee]

theorem bot_f32 : (Ideal.ofBits .f32 0xFF800000#32) = ⊥ := by
  simp [Ideal.ofBits, Ideal.ieee]

theorem fold_max_fin (n : ℕ) (f : Fin n → EReal) (g : ℕ → EReal) (h : ∀ i, f i = g i.val) :
    Finset.univ.fold max ⊥ f = (Finset.range n).sup g := by
  refine eq_of_forall_ge_iff fun B => ?_
  rw [Finset.fold_max_le, Finset.sup_le_iff]
  constructor
  · rintro ⟨-, H⟩ k hk
    have := H ⟨k, Finset.mem_range.mp hk⟩ (Finset.mem_univ _)
    rwa [h] at this
  · intro H
    exact ⟨bot_le, fun i _ => by rw [h]; exact H _ (Finset.mem_range.mpr i.isLt)⟩

theorem lift_mid {p q r : ℕ} (h : (⟨3, ![p, q, r]⟩ : Shape).Reduces [1] (⟨2, ![p, r]⟩ : Shape)) (i : Fin p) (k : Fin r)
    (j : Fin ((⟨3, ![p, q, r]⟩ : Shape).size 1)) : h.lift (ix2 i k) j = ix3 i (⟨j.val, j.isLt⟩ : Fin q) k := by
  funext c; apply Fin.ext
  fin_cases c <;> rfl

theorem colMax_apply {y : ℕ → ℕ → ℕ → EReal} {b l : ℕ} {Y : FVec Ideal S640x128 .bf16} (hY : IsChunk y b l Y) (r : Fin 20) (k : Fin 128) :
    colMax Y (ix2 r k) = (Finset.range 32).sup fun i => absE (y b (32 * r.val + i) (l + k.val)) := by
  unfold colMax
  rw [extf_read]
  refine (Ideal.multiReduction_maximumf_single _ _ _ _ _ _).trans ?_
  rw [Ideal.ofBits_def, bot_bf16]
  refine fold_max_fin 32 _ (fun i => absE (y b (32 * r.val + i) (l + k.val))) fun i => ?_
  refine (congrArg (shapeCast S20x32x128 (absf Y) shapeCasts_S640x128_S20x32x128) (lift_mid reduces_S20x32x128_S20x128 r k i)).trans ?_
  refine (shapeCast_apply _ _ _ (ix2 (⟨32 * r.val + i.val, by omega⟩ : Fin 640) k) (by
      rw [Shape.rowMajor_val_two, Shape.rowMajor_val_three]
      show (32 * r.val + i.val) * 128 + k.val = (r.val * 32 + i.val) * 128 + k.val
      omega)).trans ?_
  rw [absf_read, hY]

theorem laneBit_apply (s : BitVec 32) (r : Fin 20) (k : Fin 128) :
    laneBit s (ix2 r k) = BitVec.ofBool (BitVec.ofNat 32 k.val &&& s != 0#32) := by
  unfold laneBit
  show BitVec.ofBool (BitVec.ofNat 32 (0 * 128 + k.val) &&& s != 0#32) = _
  rw [Nat.zero_mul, Nat.zero_add]

theorem step_apply (s a b : BitVec 32) (sN : ℕ)
    (hs : ∀ l < 128, (if BitVec.ofBool (BitVec.ofNat 32 l &&& s != 0#32) = 1 then (l + 128 - a.toNat % 128) % 128 else (l + 128 - b.toNat % 128) % 128) = l ^^^ sN)
    (m : FVec Ideal S20x128 .f32) (r : Fin 20) (M : ℕ → EReal) (hM : ∀ k : Fin 128, m (ix2 r k) = M k.val) (k : Fin 128) :
    step s a b m (ix2 r k) = swapMax sN M k.val := by
  unfold step swapMax
  pointwise
  rw [hM, hM, hM, laneBit_apply, ← hs k.val k.isLt]
  unfold Scalar.select
  split <;> rfl

theorem grpMax_apply {y : ℕ → ℕ → ℕ → EReal} {b l : ℕ} (hl : l % 32 = 0) {Y : FVec Ideal S640x128 .bf16} (hY : IsChunk y b l Y) (r : Fin 20) (k : Fin 128) :
    grpMax Y (ix2 r k) = AM y b r.val ((l + k.val) / 32) := by
  let M : ℕ → EReal := fun k => (Finset.range 32).sup fun i => absE (y b (32 * r.val + i) (l + k))
  have h0 : ∀ k : Fin 128, colMax Y (ix2 r k) = M k.val := fun k => colMax_apply hY r k
  have h1 := step_apply 16#32 16#32 112#32 16 (by decide +kernel) _ r M h0
  have h2 := step_apply 8#32 8#32 120#32 8 (by decide +kernel) _ r _ h1
  have h3 := step_apply 4#32 4#32 124#32 4 (by decide +kernel) _ r _ h2
  have h4 := step_apply 2#32 2#32 126#32 2 (by decide +kernel) _ r _ h3
  have h5 := step_apply 1#32 1#32 127#32 1 (by decide +kernel) _ r _ h4 k
  refine h5.trans ((swaps M k.val k.isLt).trans ?_)
  unfold AM
  refine Finset.sup_congr rfl fun i _ => Finset.sup_congr rfl fun j _ => ?_
  rw [show l + (32 * (k.val / 32) + i) = 32 * ((l + k.val) / 32) + i by omega]

theorem inv127 : (Named.named κ "inv_127" 0x3C010204#32 : Ideal .f32) = ((1 / 127 : ℝ) : EReal) :=
  IdealRules.named_const.ideal_named_scalar _ _ _ _ rfl

theorem scaleV_is {y : ℕ → ℕ → ℕ → EReal} {b l : ℕ} (hl : l % 32 = 0) {Y : FVec Ideal S640x128 .bf16} (hY : IsChunk y b l Y) : IsScale y b l (scaleV Y) := by
  intro r k
  unfold scaleV
  rw [ValueIdx.select_apply, oeq_read, mulf_read, broadcast_read, broadcast_read, broadcast_read, ofBits_read, ofBits_read,
    grpMax_apply hl hY, inv127, Ideal.ofBits_zero_f32, Ideal.ofBits_one_f32]
  unfold SC scaleOf Scalar.select
  by_cases h : AM y b r.val ((l + k.val) / 32) = 0
  · rw [if_pos h, if_pos (by rw [decide_eq_true h]; rfl)]
  · rw [if_neg h, if_neg (by rw [decide_eq_false h]; decide)]

theorem recipV_is {y : ℕ → ℕ → ℕ → EReal} {b l : ℕ} (hl : l % 32 = 0) {Y : FVec Ideal S640x128 .bf16} (hY : IsChunk y b l Y) : IsRecip y b l (recipV Y) := by
  intro r k
  unfold recipV
  rw [divf_read, broadcast_read, ofBits_read, scaleV_is hl hY, Ideal.ofBits_one_f32]

theorem sbV_is {y : ℕ → ℕ → ℕ → EReal} {b l : ℕ} (hl : l % 32 = 0) {Y : FVec Ideal S640x128 .bf16} (hY : IsChunk y b l Y) : IsScale y b l (sbV Y) :=
  fun r k => (truncf_read (scaleV Y) bitsLt_bf16_f32 (ix2 r k)).trans (scaleV_is hl hY r k)

theorem quot_apply {y : ℕ → ℕ → ℕ → EReal} {b l : ℕ} {Y : FVec Ideal S640x128 .bf16} (hY : IsChunk y b l Y)
    {R : FVec Ideal S20x128 .f32} (hR : IsRecip y b l R) (o g : ℕ) (ho : o = 32 * g) (hg : g < 20) (h h') (r : Fin 32) (k : Fin 128) :
    quot Y R o g h h' (ix2 r k) = QC y b (o + r.val) (l + k.val) := by
  subst ho
  unfold quot
  have e1 : extractStridedSlice S32x128 ![32 * g, 0] Y h (ix2 r k) = Y (ix2 (⟨32 * g + r.val, by omega⟩ : Fin 640) k) :=
    congrArg Y (by funext a; apply Fin.ext; fin_cases a <;> simp)
  have e2 : broadcastTo S32x128 (extractStridedSlice S1x128 ![g, 0] R h') broadcasts_S1x128_S32x128 (ix2 r k) = R (ix2 (⟨g, hg⟩ : Fin 20) k) :=
    congrArg R (by funext a; apply Fin.ext; fin_cases a <;> simp <;> rfl)
  rw [min_read, max_read, round_read, mulf_read, broadcast_read, broadcast_read, sitofp_read, sitofp_read, extf_read]
  rw [e1, e2, hY, hR]
  unfold QC clip SC
  rw [mul_recip, show (32 * g + r.val) / 32 = g by omega]
  rfl

theorem codesV_apply {y : ℕ → ℕ → ℕ → EReal} {b l o : ℕ} {q : FVec Ideal S32x128 .f32}
    (hq : ∀ (r : Fin 32) (k : Fin 128), q (ix2 r k) = QC y b (o + r.val) (l + k.val)) (u : Fin 1) (r : Fin 32) (k : Fin 128) :
    codesV q (ix3 u r k) = Ideal.fptosi 8 (QC y b (o + r.val) (l + k.val)) := by
  unfold codesV
  rw [shapeCast_apply _ _ _ (ix2 r k) (by
      rw [Shape.rowMajor_val_two, Shape.rowMajor_val_three]
      show r.val * 128 + k.val = (u.val * 32 + r.val) * 128 + k.val
      omega), fptosi_read, hq]

theorem dydV_apply {y : ℕ → ℕ → ℕ → EReal} {b l o : ℕ} {q : FVec Ideal S32x128 .f32}
    (hq : ∀ (r : Fin 32) (k : Fin 128), q (ix2 r k) = QC y b (o + r.val) (l + k.val))
    {SB : FVec Ideal S20x128 .bf16} (hS : IsScale y b l SB) (g : ℕ) (ho : o = 32 * g) (hg : g < 20) (h') (r : Fin 32) (k : Fin 128) :
    dydV q SB g h' (ix2 r k) = DQ y b (o + r.val) (l + k.val) := by
  subst ho
  unfold dydV
  rw [shapeCast_self]
  have e2 : broadcastTo S32x128 (extractStridedSlice S1x128 ![g, 0] SB h') broadcasts_S1x128_S32x128 (ix2 r k) = SB (ix2 (⟨g, hg⟩ : Fin 20) k) :=
    congrArg SB (by funext a; apply Fin.ext; fin_cases a <;> simp <;> rfl)
  rw [mulf_read, truncf_read, e2, hq, hS]
  unfold DQ
  rw [show (32 * g + r.val) / 32 = g by omega]

/-! ## The stores, one by one -/

def Gcodes (y : ℕ → ℕ → ℕ → EReal) : S3x640x256.Idx → Elt Ideal .i8 := fun j => Ideal.fptosi 8 (QC y (j 0).val (j 1).val (j 2).val)
def Gscales (y : ℕ → ℕ → ℕ → EReal) : S3x20x256.Idx → Elt Ideal .f32 := fun j => SC y (j 0).val (j 1).val ((j 2).val / 32)
def Gdyd (y : ℕ → ℕ → ℕ → EReal) : S1920x256.Idx → Elt Ideal .bf16 := fun j => DQ y ((j 0).val / 640) ((j 0).val % 640) (j 1).val

theorem codes_cons {y : ℕ → ℕ → ℕ → EReal} {b l : ℕ} {Y : FVec Ideal S640x128 .bf16} (hY : IsChunk y b l Y)
    {R : FVec Ideal S20x128 .f32} (hR : IsRecip y b l R) {o g : ℕ} {inb} {h h'}
    {P : S1x32x128.Idx → Elt Ideal .i8} {L : List (View.Piece (Elt Ideal) S3x640x256 .i8)}
    (hP : P = codesV (quot Y R o g h h')) (ho : o = 32 * g) (hg : g < 20)
    (hL : View.PiecesOf (Gcodes y) L) : View.PiecesOf (Gcodes y) (⟨Rect.unit ![b, o, l] S1x32x128.size inb, P⟩ :: L) := by
  refine ⟨fun x => ?_, hL⟩
  subst hP
  obtain ⟨u, r, k, rfl⟩ : ∃ (u : Fin 1) (r : Fin 32) (k : Fin 128), x = ix3 u r k := ⟨x 0, x 1, x 2, eq_ix3 x⟩
  refine (codesV_apply (quot_apply hY hR o g ho hg h h') u r k).trans ?_
  unfold Gcodes
  simp only [ValueKit.rect_emb_unit_val]
  show _ = Ideal.fptosi 8 (QC y (b + u.val) (o + r.val) (l + k.val))
  rw [show u.val = 0 by omega, Nat.add_zero]

theorem scales_cons {y : ℕ → ℕ → ℕ → EReal} {b l : ℕ} {S : FVec Ideal S20x128 .f32} (hS : IsScale y b l S) {inb}
    {P : S1x20x128.Idx → Elt Ideal .f32} {L : List (View.Piece (Elt Ideal) S3x20x256 .f32)}
    (hP : P = shapeCast S1x20x128 S shapeCasts_S20x128_S1x20x128)
    (hL : View.PiecesOf (Gscales y) L) : View.PiecesOf (Gscales y) (⟨Rect.unit ![b, 0, l] S1x20x128.size inb, P⟩ :: L) := by
  refine ⟨fun x => ?_, hL⟩
  subst hP
  obtain ⟨u, r, k, rfl⟩ : ∃ (u : Fin 1) (r : Fin 20) (k : Fin 128), x = ix3 u r k := ⟨x 0, x 1, x 2, eq_ix3 x⟩
  refine (shapeCast_apply _ _ _ (ix2 r k) (by
      rw [Shape.rowMajor_val_two, Shape.rowMajor_val_three]
      show r.val * 128 + k.val = (u.val * 20 + r.val) * 128 + k.val
      omega)).trans ?_
  rw [hS]
  unfold Gscales
  simp only [ValueKit.rect_emb_unit_val]
  show _ = SC y (b + u.val) (0 + r.val) ((l + k.val) / 32)
  rw [show u.val = 0 by omega, Nat.add_zero, Nat.zero_add]

theorem dyd_cons {y : ℕ → ℕ → ℕ → EReal} {b l : ℕ} {Y : FVec Ideal S640x128 .bf16} (hY : IsChunk y b l Y)
    {R : FVec Ideal S20x128 .f32} (hR : IsRecip y b l R) {SB : FVec Ideal S20x128 .bf16} (hS : IsScale y b l SB) {p o g : ℕ} {inb} {h h'}
    {P : S32x128.Idx → Elt Ideal .bf16} {L : List (View.Piece (Elt Ideal) S1920x256 .bf16)}
    (hP : P = dydV (quot Y R o g h h') SB g h') (ho : o = 32 * g) (hg : g < 20) (hp : p = 640 * b + o)
    (hL : View.PiecesOf (Gdyd y) L) : View.PiecesOf (Gdyd y) (⟨Rect.unit ![p, l] S32x128.size inb, P⟩ :: L) := by
  refine ⟨fun x => ?_, hL⟩
  subst hP
  obtain ⟨r, k, rfl⟩ : ∃ (r : Fin 32) (k : Fin 128), x = ix2 r k := ⟨x 0, x 1, eq_ix2 x⟩
  refine (dydV_apply (quot_apply hY hR o g ho hg h h') hS g ho hg h' r k).trans ?_
  unfold Gdyd
  simp only [ValueKit.rect_emb_unit_val]
  show _ = DQ y ((p + r.val) / 640) ((p + r.val) % 640) (l + k.val)
  rw [show (p + r.val) / 640 = b by omega, show (p + r.val) % 640 = o + r.val by omega]

end Cert.Proof

end
-- ==== Proof.XScales.lean ====
module

public import proofs.«01_k».proof.Proof.Chunk

@[expose] public section

set_option maxRecDepth 16384

noncomputable section

namespace Cert.Proof

open Cert.KernelIdeal Cert.KernelIdeal.Gen Cert.Spec

open Idealize.ShloMosaic

variable {F : FTy → Type} [FloatOps F] [Named F]

/-! # The operand's scales, spread over the rows by a product with a 0/1 matrix -/

theorem corner32 (x : BitVec 32) : ¬ IntOp.SDivCorner x 32#32 := by
  rintro (h | ⟨_, h⟩)
  · exact absurd h (by decide)
  · exact absurd h (by decide)

theorem divsi32 (u : ArithUnit) (x : BitVec 32) : IntOp.divsi u x 32#32 = x.sdiv 32#32 := by
  unfold IntOp.divsi; rw [if_neg (corner32 x)]

theorem remsi32 (u : ArithUnit) (x : BitVec 32) : IntOp.remsi u x 32#32 = x.srem 32#32 := by
  unfold IntOp.remsi; rw [if_neg (corner32 x)]

/-- The row's block, as the words compute it. -/
theorem block_word (r : Fin 640) :
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 32#32 0#32))
            (Scalar.extui (Scalar.cmpi CmpIPredicate.slt 32#32 0#32))))
        (IntOp.cmpi CmpIPredicate.ne ((BitVec.ofNat 32 r.val).srem 32#32) 0#32))
      (IntOp.subi ((BitVec.ofNat 32 r.val).sdiv 32#32) 1#32)
      ((BitVec.ofNat 32 r.val).sdiv 32#32) = BitVec.ofNat 32 (r.val / 32) := by
  revert r; decide +kernel

theorem eq_word (a k : ℕ) (ha : a < 32) (hk : k < 32) :
    (BitVec.setWidth 32 (IntOp.cmpi CmpIPredicate.eq (BitVec.ofNat 32 a) (BitVec.ofNat 32 k))).toInt = if a = k then 1 else 0 := by
  have h : ∀ a < 32, ∀ k < 32, (BitVec.setWidth 32 (IntOp.cmpi CmpIPredicate.eq (BitVec.ofNat 32 a) (BitVec.ofNat 32 k))).toInt = if a = k then 1 else 0 := by
    decide +kernel
  exact h a ha k hk

theorem onehot_apply (k : Fin 20) (r : Fin 640) : k0_pay4 (F := Ideal) (ix2 k r) = if r.val / 32 = k.val then (1 : EReal) else 0 := by
  unfold k0_pay4
  dsimp only
  pointwise
  rw [divsi32, remsi32, block_word]
  show (((BitVec.setWidth 32 (IntOp.cmpi CmpIPredicate.eq (BitVec.ofNat 32 (r.val / 32)) (BitVec.ofNat 32 k.val))).toInt : ℝ) : EReal) = _
  rw [eq_word _ _ (by omega) (by omega)]
  split <;> simp

/-- A product that contracts both operands' rows, at an index. -/
theorem dot_rows_apply {K M N : ℕ} {φ₁ φ₂ : FTy} (w : DotDims.WF ⟨2, ![K, M]⟩ ⟨2, ![K, N]⟩ ⟨2, ![M, N]⟩ [0] [0] [1] [1] [] [])
    (A : FVec Ideal ⟨2, ![K, M]⟩ φ₁) (B : FVec Ideal ⟨2, ![K, N]⟩ φ₂) (d : Fin M) (r : Fin N) :
    matmul (⟨[0], [0], [1], [1], [], [], w⟩ : DotDims _ _ _) none A B (constant ⟨2, ![M, N]⟩ .f32 0x00000000#32) (ix2 d r)
      = ∑ k : Fin K, (A (ix2 k d) * B (ix2 k r) : EReal) := by
  refine (Ideal.matmul_constant_zero_apply _ none A B (ix2 d r)).trans ?_
  rw [← Equiv.sum_comp (ValueIdx.contrEquiv1 (⟨[0], [0], [1], [1], [], [], w⟩ : DotDims _ _ _) K rfl rfl).symm]
  refine Finset.sum_congr rfl fun c _ => ?_
  have c3 := ValueIdx.contrEquiv1_symm_val (⟨[0], [0], [1], [1], [], [], w⟩ : DotDims ⟨2, ![K, M]⟩ ⟨2, ![K, N]⟩ ⟨2, ![M, N]⟩) K rfl rfl c
  have l3 : (⟨[0], [0], [1], [1], [], [], w⟩ : DotDims ⟨2, ![K, M]⟩ ⟨2, ![K, N]⟩ ⟨2, ![M, N]⟩).lhsIdx (ix2 d r)
      ((ValueIdx.contrEquiv1 _ K rfl rfl).symm c) = ix2 c d := by
    funext ax; apply Fin.ext
    match ax with
    | ⟨0, _⟩ => exact c3
    | ⟨1, _⟩ => rfl
  have r3 : (⟨[0], [0], [1], [1], [], [], w⟩ : DotDims ⟨2, ![K, M]⟩ ⟨2, ![K, N]⟩ ⟨2, ![M, N]⟩).rhsIdx (ix2 d r)
      ((ValueIdx.contrEquiv1 _ K rfl rfl).symm c) = ix2 c r := by
    funext ax; apply Fin.ext
    match ax with
    | ⟨0, _⟩ => exact c3
    | ⟨1, _⟩ => rfl
  rw [l3, r3]

/-- A plain product, at an index. -/
theorem dot_plain_apply {K M N : ℕ} {φ₁ φ₂ : FTy} (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (d : Fin M) (r : Fin N) :
    matmul (⟨[1], [0], [0], [1], [], [], w⟩ : DotDims _ _ _) none A B (constant ⟨2, ![M, N]⟩ .f32 0x00000000#32) (ix2 d r)
      = ∑ k : Fin K, (A (ix2 d k) * B (ix2 k r) : EReal) := by
  refine (Ideal.matmul_constant_zero_apply _ none A B (ix2 d r)).trans ?_
  rw [← Equiv.sum_comp (ValueIdx.contrEquiv1 (⟨[1], [0], [0], [1], [], [], w⟩ : DotDims _ _ _) K rfl rfl).symm]
  refine Finset.sum_congr rfl fun c _ => ?_
  have c3 := ValueIdx.contrEquiv1_symm_val (⟨[1], [0], [0], [1], [], [], w⟩ : DotDims ⟨2, ![M, K]⟩ ⟨2, ![K, N]⟩ ⟨2, ![M, N]⟩) K rfl rfl c
  have l3 : (⟨[1], [0], [0], [1], [], [], w⟩ : DotDims ⟨2, ![M, K]⟩ ⟨2, ![K, N]⟩ ⟨2, ![M, N]⟩).lhsIdx (ix2 d r)
      ((ValueIdx.contrEquiv1 _ K rfl rfl).symm c) = ix2 d c := by
    funext ax; apply Fin.ext
    match ax with
    | ⟨0, _⟩ => rfl
    | ⟨1, _⟩ => exact c3
  have r3 : (⟨[1], [0], [0], [1], [], [], w⟩ : DotDims ⟨2, ![M, K]⟩ ⟨2, ![K, N]⟩ ⟨2, ![M, N]⟩).rhsIdx (ix2 d r)
      ((ValueIdx.contrEquiv1 _ K rfl rfl).symm c) = ix2 c r := by
    funext ax; apply Fin.ext
    match ax with
    | ⟨0, _⟩ => exact c3
    | ⟨1, _⟩ => rfl
  rw [l3, r3]

/-- One batch's scales, spread over its rows: column `r` holds the scales of row block `r / 32`. -/
theorem spread_apply (S : Vec Ideal S1x20x90 .f32) (d : Fin 90) (r : Fin 640) :
    (k0_pay5 S (ix2 d r) : EReal) = S (ix3 (0 : Fin 1) (⟨r.val / 32, by omega⟩ : Fin 20) d) := by
  unfold k0_pay5
  rw [truncf_read]
  let A : FVec Ideal S20x90 .bf16 := truncf .bf16 (shapeCast (α := Ideal .f32) S20x90 S shapeCasts_S1x20x90_S20x90) bitsLt_bf16_f32
  refine (dot_rows_apply dot_S20x90_S20x640_S90x640_0_0_1_1_n_n_wf A _ d r).trans ?_
  have hA : ∀ k : Fin 20, A (ix2 k d) = S (ix3 (0 : Fin 1) k d) := fun k =>
    (truncf_read (ψ := .bf16) (shapeCast (α := Ideal .f32) S20x90 S shapeCasts_S1x20x90_S20x90) bitsLt_bf16_f32 (ix2 k d)).trans (shapeCast_apply (α := Ideal .f32) S _ _ (ix3 (0 : Fin 1) k d) (by
      rw [Shape.rowMajor_val_two, Shape.rowMajor_val_three]
      show (0 * 20 + k.val) * 90 + d.val = k.val * 90 + d.val
      omega))
  have e : ∀ k : Fin 20, (A (ix2 k d) * k0_pay4 (F := Ideal) (ix2 k r) : EReal)
      = if k = (⟨r.val / 32, by omega⟩ : Fin 20) then (S (ix3 (0 : Fin 1) k d) : EReal) else 0 := fun k => by
    rw [onehot_apply, hA]
    by_cases h : r.val / 32 = k.val
    · rw [if_pos h, if_pos (Fin.ext h.symm), mul_one]
    · rw [if_neg h, if_neg (fun h' => h (congrArg Fin.val h').symm), mul_zero]
  rw [Finset.sum_congr rfl fun k _ => e k, Finset.sum_ite_eq' Finset.univ, if_pos (Finset.mem_univ _)]

/-! ## The stores of the dequantised operand -/

/-- 32 columns of codes times their scales, as stored. -/
def xdV (X : IVec S1x32x640 8) (XS : FVec F S90x640 .bf16) (g : ℕ) (h : S90x640.Slices ![g, 0] S1x640) : FVec F S32x640 .bf16 :=
  shapeCast S32x640 (mulf (sitofp .bf16 (shapeCast S32x640 X shapeCasts_S1x32x640_S32x640))
    (broadcastTo S32x640 (extractStridedSlice S1x640 ![g, 0] XS h) broadcasts_S1x640_S32x640)) shapeCasts_S32x640_S32x640

/-- A block of the transposed codes, first column `o`. -/
def IsCodes (x : ℕ → ℕ → ℕ → EReal) (b o : ℕ) (X : IVec S1x32x640 8) : Prop :=
  ∀ (i : Fin 32) (r : Fin 640), (((X (ix3 (0 : Fin 1) i r)).toInt : ℝ) : EReal) = x b r.val (o + i.val)

/-- The scales of batch `b`, spread. -/
def IsSpread (s : ℕ → ℕ → ℕ → EReal) (b : ℕ) (XS : FVec Ideal S90x640 .bf16) : Prop :=
  ∀ (d : Fin 90) (r : Fin 640), XS (ix2 d r) = s b (r.val / 32) d.val

def Gxd (x s : ℕ → ℕ → ℕ → EReal) : S2880x1920.Idx → Elt Ideal .bf16 := fun j => XD x s ((j 1).val / 640) ((j 1).val % 640) (j 0).val

theorem xdV_apply {x s : ℕ → ℕ → ℕ → EReal} {b : ℕ} {X : IVec S1x32x640 8} {XS : FVec Ideal S90x640 .bf16}
    (o g : ℕ) (ho : o = 32 * g) (hg : g < 90) (hX : IsCodes x b o X) (hS : IsSpread s b XS) (h) (i : Fin 32) (r : Fin 640) :
    xdV X XS g h (ix2 i r) = XD x s b r.val (o + i.val) := by
  subst ho
  unfold xdV
  rw [shapeCast_self]
  have e2 : broadcastTo S32x640 (extractStridedSlice S1x640 ![g, 0] XS h) broadcasts_S1x640_S32x640 (ix2 i r) = XS (ix2 (⟨g, hg⟩ : Fin 90) r) :=
    congrArg XS (by funext a; apply Fin.ext; fin_cases a <;> simp <;> rfl)
  have e3 : sitofp (F := Ideal) .bf16 (shapeCast S32x640 X shapeCasts_S1x32x640_S32x640) (ix2 i r) = x b r.val (32 * g + i.val) := by
    refine Eq.trans ?_ (hX i r)
    refine congrArg (fun v : BitVec 8 => ((v.toInt : ℝ) : EReal)) (shapeCast_apply X _ _ (ix3 (0 : Fin 1) i r) ?_)
    rw [Shape.rowMajor_val_two, Shape.rowMajor_val_three]
    show (0 * 32 + i.val) * 640 + r.val = i.val * 640 + r.val
    omega
  rw [mulf_read, e2, e3, hS]
  unfold XD
  rw [show (32 * g + i.val) / 32 = g by omega]

theorem xd_cons {x s : ℕ → ℕ → ℕ → EReal} {b : ℕ} {XS : FVec Ideal S90x640 .bf16} (hS : IsSpread s b XS)
    {o g c : ℕ} {X : IVec S1x32x640 8} {inb} {h}
    {P : S32x640.Idx → Elt Ideal .bf16} {L : List (View.Piece (Elt Ideal) S2880x1920 .bf16)}
    (hP : P = xdV X XS g h) (ho : o = 32 * g) (hg : g < 90) (hX : IsCodes x b o X) (hc : c = 640 * b)
    (hL : View.PiecesOf (Gxd x s) L) : View.PiecesOf (Gxd x s) (⟨Rect.unit ![o, c] S32x640.size inb, P⟩ :: L) := by
  refine ⟨fun z => ?_, hL⟩
  subst hP
  obtain ⟨i, r, rfl⟩ : ∃ (i : Fin 32) (r : Fin 640), z = ix2 i r := ⟨z 0, z 1, eq_ix2 z⟩
  refine (xdV_apply o g ho hg hX hS h i r).trans ?_
  unfold Gxd
  simp only [ValueKit.rect_emb_unit_val]
  show _ = XD x s ((c + r.val) / 640) ((c + r.val) % 640) (o + i.val)
  rw [show (c + r.val) / 640 = b by omega, show (c + r.val) % 640 = r.val by omega]

end Cert.Proof

end
-- ==== Proof.RunFirst.lean ====
module

public import proofs.«01_k».proof.Proof.Base

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first point. -/
noncomputable def runFirst (c : Dev nD) (i : grid0.Coords) (hi : isFirst i)
    (M1 : Memref sig .tc .vmem S3x2880x640 .i8) (h1 : M1.IsWhole) (M2 : Memref sig .tc .vmem S3x20x90 .f32) (h2 : M2.IsWhole)
    (M3 : Memref sig .tc .vmem S3x640x256 .bf16) (h3 : M3.IsWhole) (M4 : Memref sig .tc .vmem S2880x256 .f32) (h4 : M4.IsWhole)
    (M5 : Memref sig .tc .vmem S3x640x256 .i8) (h5 : M5.IsWhole) (M6 : Memref sig .tc .vmem S3x20x256 .f32) (h6 : M6.IsWhole)
    (M7 : Memref sig .tc .vmem S2880x1920 .bf16) (h7 : M7.IsWhole) (M8 : Memref sig .tc .vmem S1920x256 .bf16) (h8 : M8.IsWhole)
    (f1 : Bf (F := F) c M1) (f2 : Bf (F := F) c M2) (f3 : Bf (F := F) c M3) :
    { W : Bf (F := F) c M4 × Bf (F := F) c M5 × Bf (F := F) c M6 × Bf (F := F) c M7 //
      ∀ (f4 : Bf (F := F) c M4) (f5 : Bf (F := F) c M5) (f6 : Bf (F := F) c M6) (f7 : Bf (F := F) c M7)
        (f8 : Bf (F := F) c M8) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ (iprop(pt c M1 f1 ∗ pt c M2 f2 ∗ pt c M3 f3 ∗ pt c M4 W.1 ∗ pt c M5 W.2.1 ∗ pt c M6 W.2.2.1 ∗ pt c M7 W.2.2.2 ∗ (∃ f, pt c M8 f)) -∗ Q ⟨⟩))
        ⊢ wp frame (wpE (defs₀ (F := F)) Variants.none c none) E
            (cc0_jetfire_dw i M1 h1 M2 h2 M3 h3 M4 h4 M5 h5 M6 h6 M7 h7 M8 h8) Q } := by
  refine ⟨⟨?_, ?_, ?_, ?_⟩, fun f4 f5 f6 f7 f8 E Q => ?run⟩
  case run =>
    iintro ⟨H1, H2, H3, H4, H5, H6, H7, H8, Hk⟩
    sl_exec_parts! (disch := exact hi)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

end Cert.Proof

end
-- ==== Proof.Run.lean ====
module

public import proofs.«01_k».proof.Proof.Base

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A later point. -/
noncomputable def runLater (c : Dev nD) (i : grid0.Coords) (hi : ¬ isFirst i)
    (M1 : Memref sig .tc .vmem S3x2880x640 .i8) (h1 : M1.IsWhole) (M2 : Memref sig .tc .vmem S3x20x90 .f32) (h2 : M2.IsWhole)
    (M3 : Memref sig .tc .vmem S3x640x256 .bf16) (h3 : M3.IsWhole) (M4 : Memref sig .tc .vmem S2880x256 .f32) (h4 : M4.IsWhole)
    (M5 : Memref sig .tc .vmem S3x640x256 .i8) (h5 : M5.IsWhole) (M6 : Memref sig .tc .vmem S3x20x256 .f32) (h6 : M6.IsWhole)
    (M7 : Memref sig .tc .vmem S2880x1920 .bf16) (h7 : M7.IsWhole) (M8 : Memref sig .tc .vmem S1920x256 .bf16) (h8 : M8.IsWhole)
    (f3 : Bf (F := F) c M3) (f7 : Bf (F := F) c M7) :
    { W : Bf (F := F) c M4 × Bf (F := F) c M5 × Bf (F := F) c M6 //
      ∀ (f1 : Bf (F := F) c M1) (f2 : Bf (F := F) c M2) (f4 : Bf (F := F) c M4) (f5 : Bf (F := F) c M5) (f6 : Bf (F := F) c M6)
        (f8 : Bf (F := F) c M8) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ (iprop(pt c M1 f1 ∗ pt c M2 f2 ∗ pt c M3 f3 ∗ pt c M4 W.1 ∗ pt c M5 W.2.1 ∗ pt c M6 W.2.2 ∗ pt c M7 f7 ∗ (∃ f, pt c M8 f)) -∗ Q ⟨⟩))
        ⊢ wp frame (wpE (defs₀ (F := F)) Variants.none c none) E
            (cc0_jetfire_dw i M1 h1 M2 h2 M3 h3 M4 h4 M5 h5 M6 h6 M7 h7 M8 h8) Q } := by
  refine ⟨⟨?_, ?_, ?_⟩, fun f1 f2 f4 f5 f6 f8 E Q => ?run⟩
  case run =>
    iintro ⟨H1, H2, H3, H4, H5, H6, H7, H8, Hk⟩
    sl_exec_parts! (disch := exact hi)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

end Cert.Proof

end
-- ==== Proof.Walk.lean ====
module

public import proofs.«01_k».proof.Proof.XScales
public import proofs.«01_k».proof.Proof.RunFirst
public import proofs.«01_k».proof.Proof.Run

@[expose] public section

set_option maxRecDepth 16384

noncomputable section

namespace Cert.Proof

open Cert.KernelIdeal Cert.KernelIdeal.Gen Cert.Spec

open Idealize.ShloMosaic
open Idealize.ShloMosaic.TcCoe Idealize.ShloMosaic.Tactic

/-! # What the body's runs leave, over the extended reals

The buffers a run leaves are lists of stores. Each store is a block of one function of the arguments, and the stores
cover the buffer, so the buffer holds that function. -/

/-- A three-axis array, as a function of natural indices. -/
def ext3 {p q r : ℕ} (X : (⟨3, ![p, q, r]⟩ : Shape).Idx → EReal) (i j k : ℕ) : EReal :=
  if h : i < p ∧ j < q ∧ k < r then X (ix3 ⟨i, h.1⟩ ⟨j, h.2.1⟩ ⟨k, h.2.2⟩) else 0

/-- The transposed codes, as numbers by batch, row and column. -/
def codesOf (X : S3x2880x640.Idx → BitVec 8) (b r d : ℕ) : EReal := ext3 (fun i => (((X i).toInt : ℝ) : EReal)) b d r

section Reads

variable (c : Dev nD)

theorem chunk_of (M : Memref sig .tc .vmem S3x640x256 .bf16) (f : Bf (F := Ideal) c M) (b l : ℕ) (hb : b < 3) (hl : l ≤ 128) (inb h) :
    IsChunk (ext3 (M.view.read (Elt Ideal) f)) b l
      (shapeCast S640x128 (View.readAt (Elt Ideal) M.view (Rect.unit (s := S3x640x256) ![b, 0, l] S1x640x128.size inb).toLoadRect f) h) := by
  intro r k
  refine (shapeCast_apply _ _ _ (ix3 (0 : Fin 1) r k) (by
      rw [Shape.rowMajor_val_two, Shape.rowMajor_val_three]
      show (0 * 640 + r.val) * 128 + k.val = r.val * 128 + k.val
      omega)).trans ?_
  unfold ext3
  rw [dif_pos ⟨hb, r.isLt, by omega⟩, View.readAt_apply]
  refine congrArg (M.view.read (Elt Ideal) f) ?_
  funext a; apply Fin.ext; fin_cases a <;> simp

theorem codes_of (M : Memref sig .tc .vmem S3x2880x640 .i8) (f : Bf (F := Ideal) c M) (b o : ℕ) (hb : b < 3) (ho : o + 32 ≤ 2880) (inb) :
    IsCodes (codesOf (M.view.read (Elt Ideal) f)) b o
      (View.readAt (Elt Ideal) M.view (Rect.unit (s := S3x2880x640) ![b, o, 0] S1x32x640.size inb).toLoadRect f) := by
  intro i r
  unfold codesOf ext3
  rw [dif_pos ⟨hb, by omega, r.isLt⟩, View.readAt_apply]
  refine congrArg (fun z => (((M.view.read (Elt Ideal) f z : BitVec 8).toInt : ℝ) : EReal)) ?_
  funext a; apply Fin.ext; fin_cases a <;> simp

theorem spread_of (M : Memref sig .tc .vmem S3x20x90 .f32) (f : Bf (F := Ideal) c M) (b : ℕ) (hb : b < 3) (inb) :
    IsSpread (ext3 (M.view.read (Elt Ideal) f)) b
      (k0_pay5 (View.readAt (Elt Ideal) M.view (Rect.unit (s := S3x20x90) ![b, 0, 0] S1x20x90.size inb).toLoadRect f)) := by
  intro d r
  refine (spread_apply _ d r).trans ?_
  unfold ext3
  rw [dif_pos ⟨hb, by omega, d.isLt⟩, View.readAt_apply]
  refine congrArg (M.view.read (Elt Ideal) f) ?_
  funext a; apply Fin.ext; fin_cases a <;> simp

end Reads

section Lists

variable (c : Dev nD) (M1 : Memref sig .tc .vmem S3x2880x640 .i8) (M2 : Memref sig .tc .vmem S3x20x90 .f32) (M3 : Memref sig .tc .vmem S3x640x256 .bf16)
  (f1 : Bf (F := Ideal) c M1) (f2 : Bf (F := Ideal) c M2) (f3 : Bf (F := Ideal) c M3)

/-- The gradient's block, the codes and their scales, as functions of natural indices. -/
abbrev yOf : ℕ → ℕ → ℕ → EReal := ext3 (M3.view.read (Elt Ideal) f3)
abbrev sOf : ℕ → ℕ → ℕ → EReal := ext3 (M2.view.read (Elt Ideal) f2)
abbrev xOf : ℕ → ℕ → ℕ → EReal := codesOf (M1.view.read (Elt Ideal) f1)

theorem c00 : IsChunk (yOf c M3 f3) 0 0 (runFirst.sl.v4 c M3 f3) := chunk_of c M3 f3 0 0 (by decide) (by decide) _ _
theorem c01 : IsChunk (yOf c M3 f3) 0 128 (runFirst.sl.v523 c M3 f3) := chunk_of c M3 f3 0 128 (by decide) (by decide) _ _
theorem c10 : IsChunk (yOf c M3 f3) 1 0 (runFirst.sl.v1042 c M3 f3) := chunk_of c M3 f3 1 0 (by decide) (by decide) _ _
theorem c11 : IsChunk (yOf c M3 f3) 1 128 (runFirst.sl.v1561 c M3 f3) := chunk_of c M3 f3 1 128 (by decide) (by decide) _ _
theorem c20 : IsChunk (yOf c M3 f3) 2 0 (runFirst.sl.v2080 c M3 f3) := chunk_of c M3 f3 2 0 (by decide) (by decide) _ _
theorem c21 : IsChunk (yOf c M3 f3) 2 128 (runFirst.sl.v2599 c M3 f3) := chunk_of c M3 f3 2 128 (by decide) (by decide) _ _

theorem r00 : IsRecip (yOf c M3 f3) 0 0 (runFirst.sl.r c M3 f3) := recipV_is rfl (c00 c M3 f3)
theorem r01 : IsRecip (yOf c M3 f3) 0 128 (runFirst.sl.r_3 c M3 f3) := recipV_is rfl (c01 c M3 f3)
theorem r10 : IsRecip (yOf c M3 f3) 1 0 (runFirst.sl.r_6 c M3 f3) := recipV_is rfl (c10 c M3 f3)
theorem r11 : IsRecip (yOf c M3 f3) 1 128 (runFirst.sl.v1617 c M3 f3) := recipV_is rfl (c11 c M3 f3)
theorem r20 : IsRecip (yOf c M3 f3) 2 0 (runFirst.sl.r_9 c M3 f3) := recipV_is rfl (c20 c M3 f3)
theorem r21 : IsRecip (yOf c M3 f3) 2 128 (runFirst.sl.r_12 c M3 f3) := recipV_is rfl (c21 c M3 f3)

theorem s00 : IsScale (yOf c M3 f3) 0 0 (runFirst.sl.r_1 c M3 f3) := sbV_is rfl (c00 c M3 f3)
theorem s01 : IsScale (yOf c M3 f3) 0 128 (runFirst.sl.r_4 c M3 f3) := sbV_is rfl (c01 c M3 f3)
theorem s10 : IsScale (yOf c M3 f3) 1 0 (runFirst.sl.r_7 c M3 f3) := sbV_is rfl (c10 c M3 f3)
theorem s11 : IsScale (yOf c M3 f3) 1 128 (runFirst.sl.v1618 c M3 f3) := sbV_is rfl (c11 c M3 f3)
theorem s20 : IsScale (yOf c M3 f3) 2 0 (runFirst.sl.r_10 c M3 f3) := sbV_is rfl (c20 c M3 f3)
theorem s21 : IsScale (yOf c M3 f3) 2 128 (runFirst.sl.r_13 c M3 f3) := sbV_is rfl (c21 c M3 f3)

theorem codes_pieces : View.PiecesOf (Gcodes (yOf c M3 f3)) (runFirst.sl.H5_120 c M3 f3) := by
  iterate 20 refine codes_cons (c21 c M3 f3) (r21 c M3 f3) (by exact rfl) (by exact rfl) (by decide) ?_
  iterate 20 refine codes_cons (c20 c M3 f3) (r20 c M3 f3) (by exact rfl) (by exact rfl) (by decide) ?_
  iterate 20 refine codes_cons (c11 c M3 f3) (r11 c M3 f3) (by exact rfl) (by exact rfl) (by decide) ?_
  iterate 20 refine codes_cons (c10 c M3 f3) (r10 c M3 f3) (by exact rfl) (by exact rfl) (by decide) ?_
  iterate 20 refine codes_cons (c01 c M3 f3) (r01 c M3 f3) (by exact rfl) (by exact rfl) (by decide) ?_
  iterate 20 refine codes_cons (c00 c M3 f3) (r00 c M3 f3) (by exact rfl) (by exact rfl) (by decide) ?_
  exact trivial

theorem scales_pieces : View.PiecesOf (Gscales (yOf c M3 f3)) (runFirst.sl.H6_6 c M3 f3) := by
  refine scales_cons (scaleV_is rfl (c21 c M3 f3)) (by exact rfl) ?_
  refine scales_cons (scaleV_is rfl (c20 c M3 f3)) (by exact rfl) ?_
  refine scales_cons (scaleV_is rfl (c11 c M3 f3)) (by exact rfl) ?_
  refine scales_cons (scaleV_is rfl (c10 c M3 f3)) (by exact rfl) ?_
  refine scales_cons (scaleV_is rfl (c01 c M3 f3)) (by exact rfl) ?_
  refine scales_cons (scaleV_is rfl (c00 c M3 f3)) (by exact rfl) ?_
  exact trivial

theorem dyd_pieces : View.PiecesOf (Gdyd (yOf c M3 f3)) (runFirst.sl.H8_120 c M3 f3) := by
  iterate 20 refine dyd_cons (c21 c M3 f3) (r21 c M3 f3) (s21 c M3 f3) (by exact rfl) (by exact rfl) (by decide) (by exact rfl) ?_
  iterate 20 refine dyd_cons (c20 c M3 f3) (r20 c M3 f3) (s20 c M3 f3) (by exact rfl) (by exact rfl) (by decide) (by exact rfl) ?_
  iterate 20 refine dyd_cons (c11 c M3 f3) (r11 c M3 f3) (s11 c M3 f3) (by exact rfl) (by exact rfl) (by decide) (by exact rfl) ?_
  iterate 20 refine dyd_cons (c10 c M3 f3) (r10 c M3 f3) (s10 c M3 f3) (by exact rfl) (by exact rfl) (by decide) (by exact rfl) ?_
  iterate 20 refine dyd_cons (c01 c M3 f3) (r01 c M3 f3) (s01 c M3 f3) (by exact rfl) (by exact rfl) (by decide) (by exact rfl) ?_
  iterate 20 refine dyd_cons (c00 c M3 f3) (r00 c M3 f3) (s00 c M3 f3) (by exact rfl) (by exact rfl) (by decide) (by exact rfl) ?_
  exact trivial

theorem p0 : IsSpread (sOf c M2 f2) 0 (runFirst.sl.v3155 c M2 f2) := spread_of c M2 f2 0 (by decide) _
theorem p1 : IsSpread (sOf c M2 f2) 1 (runFirst.sl.v3970 c M2 f2) := spread_of c M2 f2 1 (by decide) _
theorem p2 : IsSpread (sOf c M2 f2) 2 (runFirst.sl.v4785 c M2 f2) := spread_of c M2 f2 2 (by decide) _

theorem xd_pieces : View.PiecesOf (Gxd (xOf c M1 f1) (sOf c M2 f2)) (runFirst.sl.H7_270 c M1 M2 f1 f2) := by
  iterate 90 refine xd_cons (p2 c M2 f2) (by exact rfl) (by exact rfl) (by decide) (codes_of c M1 f1 2 _ (by decide) (by decide) _) (by exact rfl) ?_
  iterate 90 refine xd_cons (p1 c M2 f2) (by exact rfl) (by exact rfl) (by decide) (codes_of c M1 f1 1 _ (by decide) (by decide) _) (by exact rfl) ?_
  iterate 90 refine xd_cons (p0 c M2 f2) (by exact rfl) (by exact rfl) (by decide) (codes_of c M1 f1 0 _ (by decide) (by decide) _) (by exact rfl) ?_
  exact trivial

/-! ## The buffers -/

theorem codes_canon : View.canon (runFirst.sl.H5_120 c M3 f3) = Gcodes (yOf c M3 f3) := funext fun y =>
  View.canon_apply_of_pieces _ _ (codes_pieces c M3 f3).mem y (View.cover_of_tiledL (runFirst.sl.H5_120 c M3 f3) S1x32x128.size (by sl_kernel_rfl) y)

theorem scales_canon : View.canon (runFirst.sl.H6_6 c M3 f3) = Gscales (yOf c M3 f3) := funext fun y =>
  View.canon_apply_of_pieces _ _ (scales_pieces c M3 f3).mem y (View.cover_of_tiledL (runFirst.sl.H6_6 c M3 f3) S1x20x128.size (by sl_kernel_rfl) y)

theorem dyd_canon : View.canon (runFirst.sl.H8_120 c M3 f3) = Gdyd (yOf c M3 f3) := funext fun y =>
  View.canon_apply_of_pieces _ _ (dyd_pieces c M3 f3).mem y (View.cover_of_tiledL (runFirst.sl.H8_120 c M3 f3) S32x128.size (by sl_kernel_rfl) y)

theorem xd_canon : View.canon (runFirst.sl.H7_270 c M1 M2 f1 f2) = Gxd (xOf c M1 f1) (sOf c M2 f2) := funext fun y =>
  View.canon_apply_of_pieces _ _ (xd_pieces c M1 M2 f1 f2).mem y (View.cover_of_tiledL (runFirst.sl.H7_270 c M1 M2 f1 f2) S32x640.size (by sl_kernel_rfl) y)

/-- The weight gradient's block. -/
def Gdw (x s y : ℕ → ℕ → ℕ → EReal) : S2880x256.Idx → Elt Ideal .f32 := fun j => DW x s y (j 0).val (j 1).val

theorem dw_value (x s y : ℕ → ℕ → ℕ → EReal) (A : Vec Ideal S2880x1920 .bf16) (B : Vec Ideal S1920x256 .bf16) (hA : A = Gxd x s) (hB : B = Gdyd y) :
    k0_pay3 A B = Gdw x s y := by
  subst hA hB
  funext j
  obtain ⟨d, q, rfl⟩ : ∃ (d : Fin 2880) (q : Fin 256), j = ix2 d q := ⟨j 0, j 1, eq_ix2 j⟩
  exact dot_plain_apply dot_S2880x1920_S1920x256_S2880x256_1_0_0_1_n_n_wf (φ₁ := .bf16) (φ₂ := .bf16) (Gxd x s) (Gdyd y) d q

theorem whole_idx2 {p q : ℕ} (inb) (j : (⟨2, ![p, q]⟩ : Shape).Idx) :
    (Rect.unit (s := ⟨2, ![p, q]⟩) ![0, 0] (⟨2, ![p, q]⟩ : Shape).size inb).toLoadRect.idx j = j := by
  funext a; apply Fin.ext; fin_cases a <;> simp

variable (i : grid0.Coords) (h1 : M1.IsWhole) (h2 : M2.IsWhole) (h3 : M3.IsWhole)
  (M4 : Memref sig .tc .vmem S2880x256 .f32) (h4 : M4.IsWhole)
  (M5 : Memref sig .tc .vmem S3x640x256 .i8) (h5 : M5.IsWhole)
  (M6 : Memref sig .tc .vmem S3x20x256 .f32) (h6 : M6.IsWhole)
  (M7 : Memref sig .tc .vmem S2880x1920 .bf16) (h7 : M7.IsWhole)
  (M8 : Memref sig .tc .vmem S1920x256 .bf16) (h8 : M8.IsWhole)

theorem first_dw (hi) : M4.view.read (Elt Ideal) (runFirst c i hi M1 h1 M2 h2 M3 h3 M4 h4 M5 h5 M6 h6 M7 h7 M8 h8 f1 f2 f3).1.1
    = Gdw (xOf c M1 f1) (sOf c M2 f2) (yOf c M3 f3) := by
  delta runFirst
  dsimp only
  rw [View.read_writes_junk_eq_canon]
  unfold runFirst.sl.H4_1
  rw [View.canon_unit_zero (by decide)]
  refine dw_value _ _ _ _ _ ?_ ?_
  · unfold runFirst.sl.v3117
    rw [View.readCov_eq_canon', xd_canon]
    exact funext fun j => congrArg (Gxd _ _) (whole_idx2 _ j)
  · unfold runFirst.sl.v3118
    rw [View.readCov_eq_canon', dyd_canon]
    exact funext fun j => congrArg (Gdyd _) (whole_idx2 _ j)

theorem first_codes (hi) : M5.view.read (Elt Ideal) (runFirst c i hi M1 h1 M2 h2 M3 h3 M4 h4 M5 h5 M6 h6 M7 h7 M8 h8 f1 f2 f3).1.2.1
    = Gcodes (yOf c M3 f3) := by
  delta runFirst
  dsimp only
  rw [View.read_writes_junk_eq_canon, codes_canon]

theorem first_scales (hi) : M6.view.read (Elt Ideal) (runFirst c i hi M1 h1 M2 h2 M3 h3 M4 h4 M5 h5 M6 h6 M7 h7 M8 h8 f1 f2 f3).1.2.2.1
    = Gscales (yOf c M3 f3) := by
  delta runFirst
  dsimp only
  rw [View.read_writes_junk_eq_canon, scales_canon]

theorem first_xd (hi) : M7.view.read (Elt Ideal) (runFirst c i hi M1 h1 M2 h2 M3 h3 M4 h4 M5 h5 M6 h6 M7 h7 M8 h8 f1 f2 f3).1.2.2.2
    = Gxd (xOf c M1 f1) (sOf c M2 f2) := by
  delta runFirst
  dsimp only
  rw [View.read_writes_junk_eq_canon, xd_canon]

variable (f7 : Bf (F := Ideal) c M7)

/-- A later point makes the same stores from its own block. -/
theorem later_lists : runLater.sl.H5_120 c M3 f3 = runFirst.sl.H5_120 c M3 f3 ∧ runLater.sl.H6_6 c M3 f3 = runFirst.sl.H6_6 c M3 f3
    ∧ runLater.sl.H8_120 c M3 f3 = runFirst.sl.H8_120 c M3 f3 := ⟨rfl, rfl, rfl⟩

theorem later_dw (hi) (x s : ℕ → ℕ → ℕ → EReal) (hx : M7.view.read (Elt Ideal) f7 = Gxd x s) :
    M4.view.read (Elt Ideal) (runLater c i hi M1 h1 M2 h2 M3 h3 M4 h4 M5 h5 M6 h6 M7 h7 M8 h8 f3 f7).1.1
    = Gdw x s (yOf c M3 f3) := by
  delta runLater
  dsimp only
  rw [View.read_writes_junk_eq_canon]
  unfold runLater.sl.H4_1
  rw [View.canon_unit_zero (by decide)]
  refine dw_value _ _ _ _ _ ?_ ?_
  · refine Eq.trans (funext fun j => ?_) hx
    exact congrArg (M7.view.read (Elt Ideal) f7) (whole_idx2 _ j)
  · unfold runLater.sl.v3118
    rw [View.readCov_eq_canon', (later_lists c M3 f3).2.2, dyd_canon]
    exact funext fun j => congrArg (Gdyd _) (whole_idx2 _ j)

theorem later_codes (hi) : M5.view.read (Elt Ideal) (runLater c i hi M1 h1 M2 h2 M3 h3 M4 h4 M5 h5 M6 h6 M7 h7 M8 h8 f3 f7).1.2.1
    = Gcodes (yOf c M3 f3) := by
  delta runLater
  dsimp only
  rw [View.read_writes_junk_eq_canon, (later_lists c M3 f3).1, codes_canon]

theorem later_scales (hi) : M6.view.read (Elt Ideal) (runLater c i hi M1 h1 M2 h2 M3 h3 M4 h4 M5 h5 M6 h6 M7 h7 M8 h8 f3 f7).1.2.2
    = Gscales (yOf c M3 f3) := by
  delta runLater
  dsimp only
  rw [View.read_writes_junk_eq_canon, (later_lists c M3 f3).2.1, scales_canon]

end Lists

end Cert.Proof

end
-- ==== Proof.Blocks.lean ====
module

public import proofs.«01_k».proof.Proof.Walk
public import Idealize.ShloMosaic.Lib.Pipeline.ValueKit

@[expose] public section

set_option maxRecDepth 16384

noncomputable section

namespace Cert.Proof

open Cert.KernelIdeal Cert.KernelIdeal.Gen Cert.Spec

open Idealize.ShloMosaic
open Idealize.ShloMosaic.TcCoe Idealize.ShloMosaic.Tactic
open Idealize.ShloMosaic.Pipeline (Window)

/-! # The windows' blocks

The arrays the call reads, as functions of natural indices, and what each grid point's block is of them. The last
block of columns overhangs the arrays: what its columns past the end hold is not known, and does not matter to the
columns before it, since the end is at a multiple of 32. -/

variable (m : (ℓ : Loc nD τ sig) → Buf (Elt Ideal) ℓ)

/-- The three operands as the call finds them. -/
def xG (c : Dev nD) : ℕ → ℕ → ℕ → EReal := codesOf (V m c main_v0 : S3x2880x640.Idx → BitVec 8)
def sG (c : Dev nD) : ℕ → ℕ → ℕ → EReal := ext3 (V m c main_arg1 : S3x20x90.Idx → EReal)
def yG (c : Dev nD) : ℕ → ℕ → ℕ → EReal := ext3 (V m c main_arg2 : S3x640x1920.Idx → EReal)

theorem iblk_0 (c : Dev nD) (t : Fin cfg0.N) : (iblk m c 0 t : S3x2880x640.Idx → BitVec 8) = V m c main_v0 := by
  funext j
  show (V m c main_v0 : S3x2880x640.Idx → BitVec 8) ((win0_0.rect t).emb j) = _
  refine congrArg (V m c main_v0 : S3x2880x640.Idx → BitVec 8) ?_
  funext a; apply Fin.ext
  have hz : ∀ a, win0_0.index t a = 0 := by
    rcases fin_N0 t with rfl | rfl | rfl | rfl | rfl | rfl | rfl | rfl <;> decide +kernel
  exact win0_0.rect_emb_val_of_index_zero t a (hz a) j

theorem iblk_1 (c : Dev nD) (t : Fin cfg0.N) : (iblk m c 1 t : S3x20x90.Idx → EReal) = V m c main_arg1 := by
  funext j
  show (V m c main_arg1 : S3x20x90.Idx → EReal) ((win0_1.rect t).emb j) = _
  refine congrArg (V m c main_arg1 : S3x20x90.Idx → EReal) ?_
  funext a; apply Fin.ext
  have hz : ∀ a, win0_1.index t a = 0 := by
    rcases fin_N0 t with rfl | rfl | rfl | rfl | rfl | rfl | rfl | rfl <;> decide +kernel
  exact win0_1.rect_emb_val_of_index_zero t a (hz a) j

/-- The block of columns a point takes: from column `256 t`, 256 of them or the 128 left. -/
theorem geo_2 (t : Fin cfg0.N) : (win0_2.index t 0 = 0 ∧ win0_2.index t 1 = 0 ∧ win0_2.index t 2 = t.val)
    ∧ (win0_2.xsize (grid0.coords t) 0 = 3 ∧ win0_2.xsize (grid0.coords t) 1 = 640 ∧ win0_2.xsize (grid0.coords t) 2 = min 256 (1920 - 256 * t.val)) := by
  rcases fin_N0 t with rfl | rfl | rfl | rfl | rfl | rfl | rfl | rfl <;> decide +kernel
theorem geo_3 (t : Fin cfg0.N) : (win0_3.index t 0 = 0 ∧ win0_3.index t 1 = t.val)
    ∧ (win0_3.xsize (grid0.coords t) 0 = 2880 ∧ win0_3.xsize (grid0.coords t) 1 = min 256 (1920 - 256 * t.val)) := by
  rcases fin_N0 t with rfl | rfl | rfl | rfl | rfl | rfl | rfl | rfl <;> decide +kernel
theorem geo_4 (t : Fin cfg0.N) : (win0_4.index t 0 = 0 ∧ win0_4.index t 1 = 0 ∧ win0_4.index t 2 = t.val)
    ∧ (win0_4.xsize (grid0.coords t) 0 = 3 ∧ win0_4.xsize (grid0.coords t) 1 = 640 ∧ win0_4.xsize (grid0.coords t) 2 = min 256 (1920 - 256 * t.val)) := by
  rcases fin_N0 t with rfl | rfl | rfl | rfl | rfl | rfl | rfl | rfl <;> decide +kernel
theorem geo_5 (t : Fin cfg0.N) : (win0_5.index t 0 = 0 ∧ win0_5.index t 1 = 0 ∧ win0_5.index t 2 = t.val)
    ∧ (win0_5.xsize (grid0.coords t) 0 = 3 ∧ win0_5.xsize (grid0.coords t) 1 = 20 ∧ win0_5.xsize (grid0.coords t) 2 = min 256 (1920 - 256 * t.val)) := by
  rcases fin_N0 t with rfl | rfl | rfl | rfl | rfl | rfl | rfl | rfl <;> decide +kernel

/-- The gradient's block, whatever fills its columns past the end, is the gradient on the columns before the end. -/
theorem fill_2 (c : Dev nD) (t : Fin cfg0.N) (d : S3x640x256.Idx → EReal) (b r k : ℕ) (hb : b < 3) (hr : r < 640) (hk : k < 256)
    (h : 256 * t.val + k < 1920) :
    ext3 (win0_2.fill (grid0.coords t) d (iblk m c 2 t) : S3x640x256.Idx → EReal) b r k = yG m c b r (256 * t.val + k) := by
  obtain ⟨⟨i0, i1, i2⟩, x0, x1, x2⟩ := geo_2 t
  unfold yG
  unfold ext3
  rw [dif_pos ⟨hb, hr, hk⟩, dif_pos ⟨hb, hr, h⟩]
  unfold Window.fill
  have hm : win0_2.moved (grid0.coords t) (ix3 (⟨b, hb⟩ : Fin 3) (⟨r, hr⟩ : Fin 640) (⟨k, hk⟩ : Fin 256)) = true :=
    (win0_2.moved_iff _ _).mpr fun a => by
      match a with
      | ⟨0, _⟩ => exact lt_of_lt_of_eq hb x0.symm
      | ⟨1, _⟩ => exact lt_of_lt_of_eq hr x1.symm
      | ⟨2, _⟩ => exact lt_of_lt_of_eq (lt_min hk (by omega) : k < min 256 (1920 - 256 * t.val)) x2.symm
  rw [dif_pos hm]
  show (V m c main_arg2 : S3x640x1920.Idx → EReal) ((win0_2.rect t).emb _) = _
  refine congrArg (V m c main_arg2 : S3x640x1920.Idx → EReal) ?_
  funext a; apply Fin.ext
  refine (win0_2.rect_emb_val t _ a).trans ?_
  match a with
  | ⟨0, _⟩ => show win0_2.index t 0 * 3 + b = b; rw [i0]; omega
  | ⟨1, _⟩ => show win0_2.index t 1 * 640 + r = r; rw [i1]; omega
  | ⟨2, _⟩ => show win0_2.index t 2 * 256 + k = 256 * t.val + k; rw [i2]; omega

/-- Buffer contents are what the array's block is wherever the block lies inside the array. -/
theorem fill_of_eq {α : Type} (w : Window sig grid0) (i : grid0.Coords) (X A : w.block.Idx → α)
    (h : ∀ j : w.block.Idx, (∀ a, (j a).val < w.xsize i a) → X j = A j) : X = w.fill i X (w.cut i A) := by
  funext j
  unfold Window.fill
  split
  · rename_i hm
    exact h j ((w.moved_iff i j).mp hm)
  · rfl

/-- What each output's block is of the whole result. -/
def dwAt (c : Dev nD) (t : Fin cfg0.N) : S2880x256.Idx → Elt Ideal .f32 :=
  fun j => DW (xG m c) (sG m c) (yG m c) (j 0).val (256 * t.val + (j 1).val)
def codesAt (c : Dev nD) (t : Fin cfg0.N) : S3x640x256.Idx → Elt Ideal .i8 :=
  fun j => Ideal.fptosi 8 (QC (yG m c) (j 0).val (j 1).val (256 * t.val + (j 2).val))
def scalesAt (c : Dev nD) (t : Fin cfg0.N) : S3x20x256.Idx → Elt Ideal .f32 :=
  fun j => SC (yG m c) (j 0).val (j 1).val ((256 * t.val + (j 2).val) / 32)

/-- A function that is the gradient, shifted, on the columns before the end. -/
def Agrees (c : Dev nD) (t : Fin cfg0.N) (y : ℕ → ℕ → ℕ → EReal) : Prop :=
  ∀ b r k, b < 3 → r < 640 → k < 256 → 256 * t.val + k < 1920 → y b r k = yG m c b r (256 * t.val + k)

theorem dw_agrees (c : Dev nD) (t : Fin cfg0.N) (y : ℕ → ℕ → ℕ → EReal) (hy : Agrees m c t y) :
    Gdw (xG m c) (sG m c) y = win0_3.fill (grid0.coords t) (Gdw (xG m c) (sG m c) y) (win0_3.cut (grid0.coords t) (dwAt m c t)) := by
  obtain ⟨-, -, x1⟩ := geo_3 t
  refine fill_of_eq win0_3 (grid0.coords t) _ (dwAt m c t) fun j h => ?_
  have hj : (j 1).val < min 256 (1920 - 256 * t.val) := lt_of_lt_of_eq (h 1) x1
  show DW _ _ _ _ _ = DW _ _ _ _ _
  unfold DW
  refine Finset.sum_congr rfl fun k _ => ?_
  rw [DQ_shift y (yG m c) (k.val / 640) (k.val % 640) (j 1).val (8 * t.val) (fun r' k' hr hk => by
      rw [hy _ _ _ (by omega) (by omega) (by omega) (by omega)]; congr 1; omega),
    show (j 1).val + 32 * (8 * t.val) = 256 * t.val + (j 1).val by omega]

theorem codes_agrees (c : Dev nD) (t : Fin cfg0.N) (y : ℕ → ℕ → ℕ → EReal) (hy : Agrees m c t y) :
    Gcodes y = win0_4.fill (grid0.coords t) (Gcodes y) (win0_4.cut (grid0.coords t) (codesAt m c t)) := by
  obtain ⟨-, x0, x1, x2⟩ := geo_4 t
  refine fill_of_eq win0_4 (grid0.coords t) _ (codesAt m c t) fun j h => ?_
  have h0 : (j 0).val < 3 := lt_of_lt_of_eq (h 0) x0
  have h1 : (j 1).val < 640 := lt_of_lt_of_eq (h 1) x1
  have hj : (j 2).val < min 256 (1920 - 256 * t.val) := lt_of_lt_of_eq (h 2) x2
  show Ideal.fptosi 8 _ = Ideal.fptosi 8 _
  rw [QC_shift y (yG m c) (j 0).val (j 1).val (j 2).val (8 * t.val) (fun r' k' hr hk => by
      rw [hy _ _ _ (by omega) (by omega) (by omega) (by omega)]; congr 1; omega),
    show (j 2).val + 32 * (8 * t.val) = 256 * t.val + (j 2).val by omega]

theorem scales_agrees (c : Dev nD) (t : Fin cfg0.N) (y : ℕ → ℕ → ℕ → EReal) (hy : Agrees m c t y) :
    Gscales y = win0_5.fill (grid0.coords t) (Gscales y) (win0_5.cut (grid0.coords t) (scalesAt m c t)) := by
  obtain ⟨-, x0, x1, x2⟩ := geo_5 t
  refine fill_of_eq win0_5 (grid0.coords t) _ (scalesAt m c t) fun j h => ?_
  have h0 : (j 0).val < 3 := lt_of_lt_of_eq (h 0) x0
  have h1 : (j 1).val < 20 := lt_of_lt_of_eq (h 1) x1
  have hj : (j 2).val < min 256 (1920 - 256 * t.val) := lt_of_lt_of_eq (h 2) x2
  show SC _ _ _ _ = SC _ _ _ _
  exact SC_shift y (yG m c) (j 0).val (j 1).val ((j 2).val / 32) ((256 * t.val + (j 2).val) / 32) (fun r' k' hr hk => by
      rw [hy _ _ _ (by omega) (by omega) (by omega) (by omega)]; congr 1; omega)

end Cert.Proof

end
-- ==== Proof.Body.lean ====
module

public import proofs.«01_k».proof.Proof.Blocks

@[expose] public section

set_option maxRecDepth 16384

noncomputable section

namespace Cert.Proof

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

/-! # The body at every grid point, over the extended reals -/

local notation "𝕄" => MT nD τ sig Unit (Elt Ideal) ℕ (UR sig nD τ) ℕ

variable (m : (ℓ : Loc nD τ sig) → Buf (Elt Ideal) ℓ) (ρ : Dev nD → PrngReg)

/-- The body's run with what its buffers hold: at the first point it fills the dequantised operand's buffer, at a later
    one it finds it filled, and in both cases it leaves it filled. -/
theorem run (c : Dev nD) (i : grid0.Coords)
    (M1 : Memref sig .tc .vmem S3x2880x640 .i8) (h1 : M1.IsWhole) (M2 : Memref sig .tc .vmem S3x20x90 .f32) (h2 : M2.IsWhole)
    (M3 : Memref sig .tc .vmem S3x640x256 .bf16) (h3 : M3.IsWhole) (M4 : Memref sig .tc .vmem S2880x256 .f32) (h4 : M4.IsWhole)
    (M5 : Memref sig .tc .vmem S3x640x256 .i8) (h5 : M5.IsWhole) (M6 : Memref sig .tc .vmem S3x20x256 .f32) (h6 : M6.IsWhole)
    (M7 : Memref sig .tc .vmem S2880x1920 .bf16) (h7 : M7.IsWhole) (M8 : Memref sig .tc .vmem S1920x256 .bf16) (h8 : M8.IsWhole)
    (f1 : Bf (F := Ideal) c M1) (f2 : Bf (F := Ideal) c M2) (f3 : Bf (F := Ideal) c M3) (f4 : Bf (F := Ideal) c M4) (f5 : Bf (F := Ideal) c M5)
    (f6 : Bf (F := Ideal) c M6) (f7 : Bf (F := Ideal) c M7) (f8 : Bf (F := Ideal) c M8)
    (x s : ℕ → ℕ → ℕ → EReal) (hx : xOf c M1 f1 = x) (hs : sOf c M2 f2 = s)
    (hf : ¬ isFirst i → M7.view.read (Elt Ideal) f7 = Gxd x s) (E : Set ℕ) (Q : PUnit → sProp 𝕄) :
    iprop(pt (F := Ideal) c M1 f1 ∗ pt c M2 f2 ∗ pt c M3 f3 ∗ pt c M4 f4 ∗ pt c M5 f5 ∗ pt c M6 f6 ∗ pt c M7 f7 ∗ pt c M8 f8
          ∗ (iprop(pt c M1 f1 ∗ pt c M2 f2 ∗ pt c M3 f3
            ∗ (∃ f, ⌜M4.view.read (Elt Ideal) f = Gdw x s (yOf c M3 f3)⌝ ∗ pt c M4 f)
            ∗ (∃ f, ⌜M5.view.read (Elt Ideal) f = Gcodes (yOf c M3 f3)⌝ ∗ pt c M5 f)
            ∗ (∃ f, ⌜M6.view.read (Elt Ideal) f = Gscales (yOf c M3 f3)⌝ ∗ pt c M6 f)
            ∗ (∃ f, ⌜M7.view.read (Elt Ideal) f = Gxd x s⌝ ∗ pt c M7 f) ∗ (∃ f, pt c M8 f)) -∗ Q ⟨⟩))
        ⊢ wp frame (wpE (defs₀ (F := Ideal)) Variants.none c none) E
            (cc0_jetfire_dw i M1 h1 M2 h2 M3 h3 M4 h4 M5 h5 M6 h6 M7 h7 M8 h8) Q := by
  subst hx hs
  by_cases hi : isFirst i
  · have e4 := first_dw c M1 M2 M3 f1 f2 f3 i h1 h2 h3 M4 h4 M5 h5 M6 h6 M7 h7 M8 h8 hi
    have e5 := first_codes c M1 M2 M3 f1 f2 f3 i h1 h2 h3 M4 h4 M5 h5 M6 h6 M7 h7 M8 h8 hi
    have e6 := first_scales c M1 M2 M3 f1 f2 f3 i h1 h2 h3 M4 h4 M5 h5 M6 h6 M7 h7 M8 h8 hi
    have e7 := first_xd c M1 M2 M3 f1 f2 f3 i h1 h2 h3 M4 h4 M5 h5 M6 h6 M7 h7 M8 h8 hi
    generalize hR : runFirst c i hi M1 h1 M2 h2 M3 h3 M4 h4 M5 h5 M6 h6 M7 h7 M8 h8 f1 f2 f3 = R at e4 e5 e6 e7
    iintro ⟨H1, H2, H3, H4, H5, H6, H7, H8, Hk⟩
    iapply (R.2 f4 f5 f6 f7 f8 E Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    iexact H8
  · have e7 := hf hi
    have e4 := later_dw c M1 M2 M3 f3 i h1 h2 h3 M4 h4 M5 h5 M6 h6 M7 h7 M8 h8 f7 hi _ _ e7
    have e5 := later_codes c M1 M2 M3 f3 i h1 h2 h3 M4 h4 M5 h5 M6 h6 M7 h7 M8 h8 f7 hi
    have e6 := later_scales c M1 M2 M3 f3 i h1 h2 h3 M4 h4 M5 h5 M6 h6 M7 h7 M8 h8 f7 hi
    generalize hR : runLater c i hi M1 h1 M2 h2 M3 h3 M4 h4 M5 h5 M6 h6 M7 h7 M8 h8 f3 f7 = R at e4 e5 e6
    iintro ⟨H1, H2, H3, H4, H5, H6, H7, H8, Hk⟩
    iapply (R.2 f1 f2 f4 f5 f6 f8 E Q)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]
    · iexists _; isplitr; · ipureintro; exact e4
      iexact H4
    isplitl [H5]
    · iexists _; isplitr; · ipureintro; exact e5
      iexact H5
    isplitl [H6]
    · iexists _; isplitr; · ipureintro; exact e6
      iexact H6
    isplitl [H7]
    · iexists _; isplitr; · ipureintro; exact e7
      iexact H7
    iexact H8

/-- The first point is the one numbered zero. -/
theorem isFirst_of (t : Fin cfg0.N) (h : ¬ isFirst (grid0.coords t)) : t.val ≠ 0 := by
  rcases fin_N0 t with rfl | rfl | rfl | rfl | rfl | rfl | rfl | rfl
  · exact absurd (by decide +kernel) h
  all_goals decide

/-- What the scratch buffers hold at a point's entry: the dequantised operand from the second point on. -/
def scratch (c : Dev nD) (n : ℕ) : sProp 𝕄 :=
  iprop(((∃ f, ⌜n ≠ 0 → (Memref.whole cc0_scratch0).view.read (Elt Ideal) f = Gxd (xG m c) (sG m c)⌝ ∗ pt (F := Ideal) c (Memref.whole cc0_scratch0) f)
    ∗ (∃ f, pt c (Memref.whole cc0_scratch1) f)) ∗ ∃ r, prngReg c r)

/-- The proof data: each input's buffer keeps its block, each output's ends with its block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => dwAt m c t
    | ⟨4, _⟩ => codesAt m c t
    | ⟨5, _⟩ => scalesAt m c t
  Φ s := scratch m c s.val
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) :
    (dats m 0 c).before 2 t d = win0_2.fill (grid0.coords t) d (iblk m c 2 t) := by
  unfold Dat.before; rw [if_pos (fetch0_2 t)]; rfl

theorem defs₀_row (t : Fin cfg0.N) : defs₀ (F := Ideal) .tc cfg0.body (cfg0.bodyArgs t (cfg0.slots t)) = bodyAt0 t := by
  unfold defs₀; rw [Defs.onTc_tc]

/-- Owning a whole memref is holding its buffer whole. -/
theorem owns_pt (c : Dev nD) {sp : Space} {S : Shape} {e : EltTy} (M : Memref sig .tc sp S e) (hM : M.IsWhole) (X : S.Idx → Elt Ideal e) :
    (owns (c : Thread nD τ) M fullShare X : sProp 𝕄) = iprop(∃ f, ⌜M.view.read (Elt Ideal) f = X⌝ ∗ pt (F := Ideal) c M f) := by
  unfold owns pt; rw [hM.set_eq_univ]

theorem agrees_of (c : Dev nD) (t : Fin cfg0.N) (d : S3x640x256.Idx → EReal) (M : Memref sig .tc .vmem S3x640x256 .bf16) (f : Bf (F := Ideal) c M)
    (e : M.view.read (Elt Ideal) f = win0_2.fill (grid0.coords t) d (iblk m c 2 t)) : Agrees m c t (yOf c M f) := by
  intro b r k hb hr hk h
  unfold yOf
  rw [e]
  exact fill_2 m c t d b r k hb hr hk h

set_option maxHeartbeats 1600000 in
/-- The body at a point. -/
theorem body_obligation (c : Dev nD) :
    BodyObligationLoose (dats m 0 c) defs₀ Variants.none () Set.univ := by
  intro t
  rw [bigSep_W0, bigSep_W0, defs₀_row]
  have w0 := owns_pt c ((cfg0.win 0).stage (cfg0.slots t 0)) (hstage0_0 ((cfg0.slots t 0).cast nbuf0_0))
  have w1 := owns_pt c ((cfg0.win 1).stage (cfg0.slots t 1)) (hstage0_1 ((cfg0.slots t 1).cast nbuf0_1))
  have w2 := owns_pt c ((cfg0.win 2).stage (cfg0.slots t 2)) (hstage0_2 ((cfg0.slots t 2).cast nbuf0_2))
  have w3 := owns_pt c ((cfg0.win 3).stage (cfg0.slots t 3)) (hstage0_3 ((cfg0.slots t 3).cast nbuf0_3))
  have w4 := owns_pt c ((cfg0.win 4).stage (cfg0.slots t 4)) (hstage0_4 ((cfg0.slots t 4).cast nbuf0_4))
  have w5 := owns_pt c ((cfg0.win 5).stage (cfg0.slots t 5)) (hstage0_5 ((cfg0.slots t 5).cast nbuf0_5))
  have hΦ : ∀ s, (dats m 0 c).Φ s = scratch m c s.val := fun _ => rfl
  simp only [hΦ, scratch, w0, w1, w2, w3, w4, w5]
  iintro ⟨⟨⟨⟨%f7, %e7, H7⟩, ⟨%f8, H8⟩⟩, Hg⟩, Ho, ⟨%d0, %f1, %e1, H1⟩, ⟨%d1, %f2, %e2, H2⟩, ⟨%d2, %f3, %e3, H3⟩, ⟨%X4, %f4, %e4, H4⟩, ⟨%X5, %f5, %e5, H5⟩, ⟨%X6, %f6, %e6, H6⟩⟩
  iapply (run c (grid0.coords t) _ _ _ _ _ _ _ _ _ _ _ _ (Memref.whole cc0_scratch0) _ (Memref.whole cc0_scratch1) _ f1 f2 f3 f4 f5 f6 f7 f8
    (xG m c) (sG m c) (by rw [before_0, iblk_0] at e1; exact congrArg codesOf e1) (by rw [before_1, iblk_1] at e2; exact congrArg ext3 e2)
    (fun hi => e7 (isFirst_of t hi)) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, ⟨%g4, %r4, H4⟩, ⟨%g5, %r5, H5⟩, ⟨%g6, %r6, H6⟩, ⟨%g7, %r7, H7⟩, ⟨%g8, H8⟩⟩
  isplitl [H7 H8 Hg]
  · isplitl [H7 H8]
    · isplitl [H7]
      · iexists g7; isplitr; · ipureintro; exact fun _ => r7
        iexact H7
      iexists g8; iexact H8
    · iexact Hg
  isplitl [Ho]; · iexact Ho
  isplitl [H1]
  · iexists f1; isplitr; · ipureintro; rw [e1, before_0]; rfl
    iexact H1
  isplitl [H2]
  · iexists f2; isplitr; · ipureintro; rw [e2, before_1]; rfl
    iexact H2
  isplitl [H3]
  · iexists d2, f3; isplitr
    · ipureintro; rw [e3, before_2]
      exact congrArg (win0_2.fill (grid0.coords t) d2) (win0_2.cut_fill _ _ _).symm
    iexact H3
  rw [before_2] at e3
  have ha := agrees_of m c t d2 _ f3 e3
  isplitl [H4]
  · iexists _, g4; isplitr; · ipureintro; exact r4.trans (dw_agrees m c t _ ha)
    iexact H4
  isplitl [H5]
  · iexists _, g5; isplitr; · ipureintro; exact r5.trans (codes_agrees m c t _ ha)
    iexact H5
  · iexists _, g6; isplitr; · ipureintro; exact r6.trans (scales_agrees m c t _ ha)
    iexact H6

end Cert.Proof

end
-- ==== Proof.Value.lean ====
module

public import proofs.«01_k».proof.Proof.Body

@[expose] public section

set_option maxRecDepth 16384

noncomputable section

namespace Cert.Proof

open Cert.KernelIdeal Cert.KernelIdeal.Gen Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

/-! # What the kernel leaves in its results -/

variable (m : (ℓ : Loc nD τ sig) → Buf (Elt Ideal) ℓ) (ρ : Dev nD → PrngReg)

/-- The three results as functions of three operands. -/
def dwOf (x s y : ℕ → ℕ → ℕ → EReal) : S2880x1920.Idx → Elt Ideal .f32 := fun i => DW x s y (i 0).val (i 1).val
def qOf (y : ℕ → ℕ → ℕ → EReal) : S3x640x1920.Idx → Elt Ideal .i8 := fun i => Ideal.fptosi 8 (QC y (i 0).val (i 1).val (i 2).val)
def wideOf (y : ℕ → ℕ → ℕ → EReal) : S3x20x1920.Idx → Elt Ideal .f32 := fun i => SC y (i 0).val (i 1).val ((i 2).val / 32)
def scOf (y : ℕ → ℕ → ℕ → EReal) : S3x20x60.Idx → Elt Ideal .f32 := fun i => SC y (i 0).val (i 1).val (i 2).val

theorem arr_dw (c : Dev nD) : (dats m 0 c).arrAt 3 cfg0.N = dwOf (xG m c) (sG m c) (yG m c) := by
  refine (dats m 0 c).arrAt_eq_of_covers 3 _ (by decide +kernel) fun t _ y => ?_
  obtain ⟨⟨i0, i1⟩, -⟩ := geo_3 t
  show DW _ _ _ (y 0).val (256 * t.val + (y 1).val) = DW _ _ _ (((win0_3.rect t).emb y) 0).val (((win0_3.rect t).emb y) 1).val
  rw [win0_3.rect_emb_val t y 0, win0_3.rect_emb_val t y 1, i0, i1]
  congr 1
  · show (y 0).val = 0 * _ + (y 0).val; omega
  · show 256 * t.val + (y 1).val = t.val * 256 + (y 1).val; omega

theorem arr_codes (c : Dev nD) : (dats m 0 c).arrAt 4 cfg0.N = qOf (yG m c) := by
  refine (dats m 0 c).arrAt_eq_of_covers 4 _ (by decide +kernel) fun t _ y => ?_
  obtain ⟨⟨i0, i1, i2⟩, -⟩ := geo_4 t
  show Ideal.fptosi 8 (QC _ (y 0).val (y 1).val (256 * t.val + (y 2).val))
    = Ideal.fptosi 8 (QC _ (((win0_4.rect t).emb y) 0).val (((win0_4.rect t).emb y) 1).val (((win0_4.rect t).emb y) 2).val)
  rw [win0_4.rect_emb_val t y 0, win0_4.rect_emb_val t y 1, win0_4.rect_emb_val t y 2, i0, i1, i2]
  congr 2
  · show (y 0).val = 0 * _ + (y 0).val; omega
  · show (y 1).val = 0 * _ + (y 1).val; omega
  · show 256 * t.val + (y 2).val = t.val * 256 + (y 2).val; omega

theorem arr_scales (c : Dev nD) : (dats m 0 c).arrAt 5 cfg0.N = wideOf (yG m c) := by
  refine (dats m 0 c).arrAt_eq_of_covers 5 _ (by decide +kernel) fun t _ y => ?_
  obtain ⟨⟨i0, i1, i2⟩, -⟩ := geo_5 t
  show SC _ (y 0).val (y 1).val ((256 * t.val + (y 2).val) / 32)
    = SC _ (((win0_5.rect t).emb y) 0).val (((win0_5.rect t).emb y) 1).val ((((win0_5.rect t).emb y) 2).val / 32)
  rw [win0_5.rect_emb_val t y 0, win0_5.rect_emb_val t y 1, win0_5.rect_emb_val t y 2, i0, i1, i2]
  congr 1
  · show (y 0).val = 0 * _ + (y 0).val; omega
  · show (y 1).val = 0 * _ + (y 1).val; omega
  · show (256 * t.val + (y 2).val) / 32 = (t.val * 256 + (y 2).val) / 32; congr 1; omega

/-- The last host line keeps one column in 32. -/
theorem slice_wide (y : ℕ → ℕ → ℕ → EReal) (h) : Host.slice S3x20x60 ![0, 0, 0] ![1, 1, 32] (wideOf y) h = scOf y := by
  funext i
  rw [Host.slice_apply]
  show SC y (0 + 1 * (i 0).val) (0 + 1 * (i 1).val) ((0 + 32 * (i 2).val) / 32) = SC y (i 0).val (i 1).val (i 2).val
  congr 1
  · omega
  · omega
  · omega

theorem W_main_v2 (c : Dev nD) : Pipeline.afterTail₀ cfgs (dats m) 0 (V0 m) [hostOps1] c main_v2 = scOf (yG m c) := by
  unfold Pipeline.afterTail₀
  show StableHlo.after hostOps1 _ _ = _
  rw [StableHlo.after_cons, StableHlo.after_nil, StableHlo.unary_result]
  have h := Pipeline.withArrays_arr spec0 launch0.win.arr_inj c (V0 m c) (fun w => (dats m 0 c).arrAt w cfg0.N) 5
  refine (congrArg (fun z => Host.slice S3x20x60 ![0, 0, 0] ![1, 1, 32] z slicesBy_S3x20x1920_S3x20x60_0s1_0s1_0s32) (h.trans (arr_scales m c))).trans ?_
  exact slice_wide _ _

/-- The first host line transposes the codes. -/
theorem V_main_v0 (c : Dev nD) : (V m c main_v0 : S3x2880x640.Idx → BitVec 8)
    = transpose S3x2880x640 [0, 2, 1] (m ((c : Thread nD τ).loc main_arg0) : S3x640x2880.Idx → BitVec 8) transposes_S3x640x2880_S3x2880x640_0_2_1 := by
  unfold V V0
  show StableHlo.after hostOps0 _ _ = _
  rw [StableHlo.after_cons, StableHlo.after_nil, StableHlo.unary_result]

/-- The operands as the program finds them. -/
def xM (X : S3x640x2880.Idx → BitVec 8) : ℕ → ℕ → ℕ → EReal := ext3 fun i => (((X i).toInt : ℝ) : EReal)

theorem xG_eq (c : Dev nD) : xG m c = xM (m ((c : Thread nD τ).loc main_arg0)) := by
  funext b r d
  unfold xG xM codesOf
  rw [V_main_v0]
  unfold ext3
  by_cases h : b < 3 ∧ r < 640 ∧ d < 2880
  · rw [dif_pos ⟨h.1, h.2.2, h.2.1⟩, dif_pos h]
    refine congrArg (fun z : BitVec 8 => ((z.toInt : ℝ) : EReal)) ?_
    exact transpose_apply [0, 2, 1] _ _ (ix3 ⟨b, h.1⟩ ⟨d, h.2.2⟩ ⟨r, h.2.1⟩) (ix3 ⟨b, h.1⟩ ⟨r, h.2.1⟩ ⟨d, h.2.2⟩)
      (fun a => match a with | ⟨0, _⟩ => rfl | ⟨1, _⟩ => rfl | ⟨2, _⟩ => rfl)
  · rw [dif_neg h, dif_neg (fun g => h ⟨g.1, g.2.2, g.2.1⟩)]

theorem sG_eq (c : Dev nD) : sG m c = ext3 (m ((c : Thread nD τ).loc main_arg1) : S3x20x90.Idx → EReal) := by
  unfold sG; rw [V_main_arg1]
theorem yG_eq (c : Dev nD) : yG m c = ext3 (m ((c : Thread nD τ).loc main_arg2) : S3x640x1920.Idx → EReal) := by
  unfold yG; rw [V_main_arg2]

theorem scratch_eq (c : Dev nD) : Pipeline.ΦA spec0 c
      = iprop(((∃ f, pt (F := Ideal) c (Memref.whole cc0_scratch0) f) ∗ (∃ f, pt c (Memref.whole cc0_scratch1) f)) ∗ ∃ r, prngReg c r) := by
  unfold Pipeline.ΦA; rw [scopedRest0_eq]

theorem scratch_in (c : Dev nD) : Pipeline.ΦA spec0 c ⊢ scratch m c 0 := by
  rw [scratch_eq]
  unfold scratch
  iintro ⟨⟨⟨%f7, H7⟩, H8⟩, Hg⟩
  isplitl [H7 H8]
  · isplitl [H7]
    · iexists f7; isplitr; · ipureintro; exact fun h => absurd rfl h
      iexact H7
    · iexact H8
  · iexact Hg

theorem scratch_out (c : Dev nD) (n : ℕ) : scratch m c n ⊢ Pipeline.ΦA spec0 c := by
  rw [scratch_eq]
  unfold scratch
  iintro ⟨⟨⟨%f7, %e7, H7⟩, H8⟩, Hg⟩
  isplitl [H7 H8]
  · isplitl [H7]
    · iexists f7; iexact H7
    · iexact H8
  · iexact Hg

set_option backward.isDefEq.respectTransparency.types false in
set_option maxHeartbeats 800000 in
/-- The run: every execution terminates, the results hold the three functions of the arguments, the arguments are
    unchanged, every semaphore is at zero. -/
theorem run_main :
    θ_run defs (onTc (τ := τ) (main (F := Ideal))) ⟨m, fun _ => 0, ρ⟩ (fun r => (∀ c : Dev nD,
      r.2.mem ((c.tc : Thread nD τ).loc main_v1_0) = dwOf (xG m c) (sG m c) (yG m c)
      ∧ r.2.mem ((c.tc : Thread nD τ).loc main_v1_1) = qOf (yG m c)
      ∧ r.2.mem ((c.tc : Thread nD τ).loc main_v2) = scOf (yG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_track (Q' := _) cfgs (dats m) 0 launch0 defs₀ Variants.none m ρ main
    (hbody := body_obligation m)
    (hshare := fun c => (dats m 0 c).share_full fun _ => rfl) (howed := fun _ _ => rfl)
    (V₀ := V0 m) (opss := [hostOps1]) sfx_sub sfx_fresh sfx_keeps
    (hmain m Variants.none) (hA := fun _ _ => rfl) (hin := scratch_in m) (hout := fun c => scratch_out m c _)
    (hQ' := fun r h => ⟨fun c =>
      ⟨((h.1 c).1 3).trans (arr_dw m c), ((h.1 c).1 4).trans (arr_codes m c),
        ((h.1 c).2 main_v2 (Pipeline.mem_restRefs_of main_v2 (by decide) (by decide))).trans (W_main_v2 m c),
        ((h.1 c).2 main_arg0 (Pipeline.mem_restRefs_of main_arg0 (by decide) (by decide))).trans (W_main_arg0 m (dats m) c),
        ((h.1 c).1 1).trans (((dats m 0 c).arrAt_in 1 rfl _).trans (V_main_arg1 m c)),
        ((h.1 c).1 2).trans (((dats m 0 c).arrAt_in 2 rfl _).trans (V_main_arg2 m c))⟩, h.2⟩)

end Cert.Proof

end
-- ==== Proof.Ref.lean ====
module

public import proofs.«01_k».proof.Proof.Walk
public import proofs.«01_k».proof.Proof.Gen.ReferenceIdeal.Skeleton
public import proofs.«01_k».proof.Proof.Gen.ReferenceIdeal.Frame

@[expose] public section

set_option maxRecDepth 16384

noncomputable section

namespace Cert.RefProof

open Cert.ReferenceIdeal Cert.ReferenceIdeal.Gen Cert.Spec

open Idealize.ShloMosaic
open Cert.Proof (extf_read truncf_read absf_read mulf_read divf_read max_read min_read round_read fptosi_read oeq_read broadcast_read
  ofBits_read sitofp_read bot_f32 fold_max_fin dot_rows_apply)

/-! # What the reference computes, over the extended reals -/

theorem sitofp_vec {s : Shape} {φ : FTy} {w : ℕ} (x : IVec s w) (i : s.Idx) :
    (sitofp φ x : FVec Ideal s φ) i = (((x i).toInt : ℝ) : EReal) := rfl

variable {y : ℕ → ℕ → ℕ → EReal} {v : Vec Ideal S3x640x1920 .bf16}

/-- Values that are `y` at every index. -/
def IsArr {p q r : ℕ} (y : ℕ → ℕ → ℕ → EReal) (v : (⟨3, ![p, q, r]⟩ : Shape).Idx → EReal) : Prop :=
  ∀ (b : Fin p) (i : Fin q) (k : Fin r), v (ix3 b i k) = y b.val i.val k.val

/-- The array with its rows in blocks of 32. -/
theorem pay2_apply (hv : IsArr y v) (b : Fin 3) (g : Fin 20) (i : Fin 32) (c : Fin 1920) :
    k0_pay2 v (ix4 b g i c) = y b.val (32 * g.val + i.val) c.val := by
  unfold k0_pay2
  refine (shapeCast_apply _ _ _ (ix3 b (⟨32 * g.val + i.val, by omega⟩ : Fin 640) c) (by
      rw [Shape.rowMajor_val_three, Shape.rowMajor_val_four]
      show (b.val * 640 + (32 * g.val + i.val)) * 1920 + c.val = ((b.val * 20 + g.val) * 32 + i.val) * 1920 + c.val
      omega)).trans ?_
  rw [extf_read]
  exact hv _ _ _

theorem lift_rows {p q r t : ℕ} (h : (⟨4, ![p, q, r, t]⟩ : Shape).Reduces [2] (⟨3, ![p, q, t]⟩ : Shape)) (b : Fin p) (i : Fin q) (k : Fin t)
    (j : Fin ((⟨4, ![p, q, r, t]⟩ : Shape).size 2)) : h.lift (ix3 b i k) j = ix4 b i (⟨j.val, j.isLt⟩ : Fin r) k := by
  funext c; apply Fin.ext
  fin_cases c <;> rfl

theorem lift_cols {p q r t : ℕ} (h : (⟨4, ![p, q, r, t]⟩ : Shape).Reduces [3] (⟨3, ![p, q, r]⟩ : Shape)) (b : Fin p) (i : Fin q) (k : Fin r)
    (j : Fin ((⟨4, ![p, q, r, t]⟩ : Shape).size 3)) : h.lift (ix3 b i k) j = ix4 b i k (⟨j.val, j.isLt⟩ : Fin t) := by
  funext c; apply Fin.ext
  fin_cases c <;> rfl

/-- The largest absolute value of 32 rows. -/
def rowMaxV (v : Vec Ideal S3x640x1920 .bf16) : FVec Ideal S3x20x1920 .f32 :=
  multiReduction .maximumf [2] S3x20x1920 (absf (k0_pay2 v)) 0xFF800000#32 reduces_S3x20x32x1920_S3x20x1920 (.inl rfl) rfl

theorem rowMaxV_apply (hv : IsArr y v) (b : Fin 3) (g : Fin 20) (c : Fin 1920) :
    rowMaxV v (ix3 b g c) = (Finset.range 32).sup fun r => absE (y b.val (32 * g.val + r) c.val) := by
  unfold rowMaxV
  refine (Ideal.multiReduction_maximumf_single _ _ _ _ _ _).trans ?_
  rw [Ideal.ofBits_def, bot_f32]
  refine fold_max_fin 32 _ (fun r => absE (y b.val (32 * g.val + r) c.val)) fun r => ?_
  refine (congrArg (absf (k0_pay2 v)) (lift_rows reduces_S3x20x32x1920_S3x20x1920 b g c r)).trans ?_
  rw [absf_read, pay2_apply hv]

/-- Those, the columns in blocks of 32. -/
def colsV (v : Vec Ideal S3x640x1920 .bf16) : FVec Ideal S3x20x60x32 .f32 :=
  shapeCast S3x20x60x32 (rowMaxV v) shapeCasts_S3x20x1920_S3x20x60x32

theorem colsV_apply (hv : IsArr y v) (b : Fin 3) (g : Fin 20) (h : Fin 60) (k : Fin 32) :
    colsV v (ix4 b g h k) = (Finset.range 32).sup fun r => absE (y b.val (32 * g.val + r) (32 * h.val + k.val)) := by
  unfold colsV
  refine (shapeCast_apply _ _ _ (ix3 b g (⟨32 * h.val + k.val, by omega⟩ : Fin 1920)) (by
      rw [Shape.rowMajor_val_three, Shape.rowMajor_val_four]
      show (b.val * 20 + g.val) * 1920 + (32 * h.val + k.val) = ((b.val * 20 + g.val) * 60 + h.val) * 32 + k.val
      omega)).trans ?_
  exact rowMaxV_apply hv b g _

/-- The largest absolute value of every block. -/
def maxV (v : Vec Ideal S3x640x1920 .bf16) : FVec Ideal S3x20x60 .f32 :=
  multiReduction .maximumf [3] S3x20x60 (colsV v) 0xFF800000#32 reduces_S3x20x60x32_S3x20x60 (.inl rfl) rfl

theorem maxV_apply (hv : IsArr y v) (b : Fin 3) (g : Fin 20) (h : Fin 60) : maxV v (ix3 b g h) = AM y b.val g.val h.val := by
  unfold maxV
  refine (Ideal.multiReduction_maximumf_single _ _ _ _ _ _).trans ?_
  rw [Ideal.ofBits_def, bot_f32]
  unfold AM
  refine fold_max_fin 32 _ (fun k => (Finset.range 32).sup fun r => absE (y b.val (32 * g.val + r) (32 * h.val + k))) fun k => ?_
  have e : reduces_S3x20x60x32_S3x20x60.lift (ix3 b g h) k = ix4 b g h k := lift_cols (p := 3) (q := 20) (r := 60) (t := 32) _ b g h k
  refine Eq.trans ?_ (((congrArg (colsV v) e).trans (colsV_apply hv b g h k)).trans ?_)
  · exact Function.comp_apply
  · rfl

theorem ofBits_127 : Ideal.ofBits .f32 0x42FE0000#32 = ((127 : ℝ) : EReal) := by
  simp [Ideal.ofBits, Ideal.ieee]
  rw [← EReal.coe_mul]
  norm_num

/-- The scales. -/
theorem pay3_apply (hv : IsArr y v) (b : Fin 3) (g : Fin 20) (h : Fin 60) : k0_pay3 v (ix3 b g h) = SC y b.val g.val h.val := by
  have e : k0_pay3 v = select (cmpf .oeq (maxV v) (broadcast S3x20x60 (Scalar.ofBits .f32 0x00000000#32)))
      (broadcast S3x20x60 (Scalar.ofBits .f32 0x3F800000#32)) (divf (maxV v) (broadcast S3x20x60 (Scalar.ofBits .f32 0x42FE0000#32))) := rfl
  rw [e, ValueIdx.select_apply, oeq_read, divf_read, broadcast_read, broadcast_read, broadcast_read, ofBits_read, ofBits_read, ofBits_read,
    maxV_apply hv, Ideal.ofBits_zero_f32, Ideal.ofBits_one_f32, ofBits_127, div_127]
  unfold SC scaleOf Scalar.select
  by_cases h0 : AM y b.val g.val h.val = 0
  · rw [if_pos h0, if_pos (by rw [decide_eq_true h0]; rfl)]
  · rw [if_neg h0, if_neg (by rw [decide_eq_false h0]; decide)]

/-- Block scales spread over every row and column of their block. -/
theorem spread_apply {α : Type} {N C : ℕ} (hC : C = 32 * N) (hN : N ≠ 1) (hC1 : C ≠ 1) (S : (⟨3, ![3, 20, N]⟩ : Shape).Idx → α) (h1 h2 h3 h4 h5)
    (b : Fin 3) (g : Fin 20) (i : Fin 32) (c : Fin C) :
    broadcastTo (⟨4, ![3, 20, 32, C]⟩ : Shape) (shapeCast (⟨4, ![3, 20, 1, C]⟩ : Shape) (shapeCast (⟨3, ![3, 20, C]⟩ : Shape)
      (broadcastTo (⟨4, ![3, 20, N, 32]⟩ : Shape) (shapeCast (⟨4, ![3, 20, N, 1]⟩ : Shape) S h1) h2) h3) h4) h5 (ix4 b g i c)
      = S (ix3 b g (⟨c.val / 32, by have := c.isLt; omega⟩ : Fin N)) := by
  have hq : c.val / 32 < N := by have := c.isLt; omega
  refine (broadcastTo_apply _ _ _ (ix4 b g (0 : Fin 1) c) (fun a => by
    match a with
    | ⟨0, _⟩ => rfl
    | ⟨1, _⟩ => rfl
    | ⟨2, _⟩ => rfl
    | ⟨3, _⟩ => exact (if_neg hC1).symm)).trans ?_
  refine (shapeCast_apply _ _ _ (ix3 b g c) (by
      rw [Shape.rowMajor_val_three, Shape.rowMajor_val_four]
      show (b.val * 20 + g.val) * C + c.val = ((b.val * 20 + g.val) * 1 + 0) * C + c.val
      rw [Nat.mul_one, Nat.add_zero])).trans ?_
  refine (shapeCast_apply _ _ _ (ix4 b g (⟨c.val / 32, hq⟩ : Fin N) (⟨c.val % 32, Nat.mod_lt _ (by norm_num)⟩ : Fin 32)) (by
      rw [Shape.rowMajor_val_three, Shape.rowMajor_val_four]
      show ((b.val * 20 + g.val) * N + c.val / 32) * 32 + c.val % 32 = (b.val * 20 + g.val) * C + c.val
      have h := Nat.div_add_mod c.val 32
      have hu : (b.val * 20 + g.val) * C = (b.val * 20 + g.val) * N * 32 := by
        subst hC
        ring
      rw [hu]
      omega)).trans ?_
  refine (broadcastTo_apply _ _ _ (ix4 b g (⟨c.val / 32, hq⟩ : Fin N) (0 : Fin 1)) (fun a => by
    match a with
    | ⟨0, _⟩ => rfl
    | ⟨1, _⟩ => rfl
    | ⟨2, _⟩ => exact (if_neg hN).symm
    | ⟨3, _⟩ => rfl)).trans ?_
  exact shapeCast_apply _ _ _ (ix3 b g (⟨c.val / 32, hq⟩ : Fin N)) (by
      rw [Shape.rowMajor_val_three, Shape.rowMajor_val_four]
      show (b.val * 20 + g.val) * N + c.val / 32 = ((b.val * 20 + g.val) * N + c.val / 32) * 1 + 0
      rw [Nat.mul_one, Nat.add_zero])

/-- The scales over every row and column. -/
def scaleRow (v : Vec Ideal S3x640x1920 .bf16) : FVec Ideal S3x20x32x1920 .f32 :=
  broadcastTo S3x20x32x1920 (shapeCast S3x20x1x1920 (shapeCast S3x20x1920 (broadcastTo S3x20x60x32
    (shapeCast S3x20x60x1 (k0_pay3 v) shapeCasts_S3x20x60_S3x20x60x1) broadcasts_S3x20x60x1_S3x20x60x32) shapeCasts_S3x20x60x32_S3x20x1920)
    shapeCasts_S3x20x1920_S3x20x1x1920) broadcasts_S3x20x1x1920_S3x20x32x1920

theorem scaleRow_apply (hv : IsArr y v) (b : Fin 3) (g : Fin 20) (i : Fin 32) (c : Fin 1920) :
    scaleRow v (ix4 b g i c) = SC y b.val g.val (c.val / 32) := by
  unfold scaleRow
  refine (spread_apply (N := 60) (C := 1920) rfl (by norm_num) (by norm_num) (k0_pay3 v) _ _ _ _ _ b g i c).trans ?_
  exact pay3_apply hv _ _ _

/-- The rounded and clipped quotients. -/
def quotR (v : Vec Ideal S3x640x1920 .bf16) : FVec Ideal S3x20x32x1920 .f32 :=
  minimumf (broadcast S3x20x32x1920 (Scalar.sitofp .f32 127#32)) (maximumf (broadcast S3x20x32x1920 (Scalar.sitofp .f32 4294967169#32))
    (roundeven (divf (k0_pay2 v) (scaleRow v))))

theorem quotR_apply (hv : IsArr y v) (b : Fin 3) (g : Fin 20) (i : Fin 32) (c : Fin 1920) :
    quotR v (ix4 b g i c) = QC y b.val (32 * g.val + i.val) c.val := by
  unfold quotR
  rw [min_read, max_read, round_read, divf_read, broadcast_read, broadcast_read, sitofp_read, sitofp_read, pay2_apply hv, scaleRow_apply hv]
  unfold QC clip
  rw [show (32 * g.val + i.val) / 32 = g.val by omega]
  rfl

/-- The codes. -/
theorem pay4_apply (hv : IsArr y v) (b : Fin 3) (r : Fin 640) (c : Fin 1920) :
    k0_pay4 v (ix3 b r c) = Ideal.fptosi 8 (QC y b.val r.val c.val) := by
  have e : k0_pay4 v = shapeCast S3x640x1920 (fptosi 8 (quotR v)) shapeCasts_S3x20x32x1920_S3x640x1920 := rfl
  rw [e]
  refine (shapeCast_apply _ _ _ (ix4 b (⟨r.val / 32, by omega⟩ : Fin 20) (⟨r.val % 32, by omega⟩ : Fin 32) c) (by
      rw [Shape.rowMajor_val_three, Shape.rowMajor_val_four]
      show ((b.val * 20 + r.val / 32) * 32 + r.val % 32) * 1920 + c.val = (b.val * 640 + r.val) * 1920 + c.val
      omega)).trans ?_
  rw [fptosi_read, quotR_apply hv]
  show Ideal.fptosi 8 (QC y b.val (32 * (r.val / 32) + r.val % 32) c.val) = _
  rw [show 32 * (r.val / 32) + r.val % 32 = r.val by omega]

theorem pay6_apply (hv : IsArr y v) (b : Fin 3) (g : Fin 20) (i : Fin 32) (c : Fin 1920) :
    k0_pay6 v (ix4 b g i c) = QC y b.val (32 * g.val + i.val) c.val := by
  unfold k0_pay6
  rw [sitofp_vec, shapeCast_apply _ _ _ (ix3 b (⟨32 * g.val + i.val, by omega⟩ : Fin 640) c) (by
      rw [Shape.rowMajor_val_three, Shape.rowMajor_val_four]
      show (b.val * 640 + (32 * g.val + i.val)) * 1920 + c.val = ((b.val * 20 + g.val) * 32 + i.val) * 1920 + c.val
      omega), pay4_apply hv]
  exact byte_roundtrip _

/-- The gradient back from its codes. -/
def backY (v : Vec Ideal S3x640x1920 .bf16) : FVec Ideal S3x640x1920 .bf16 :=
  shapeCast S3x640x1920 (mulf (k0_pay6 v) (broadcastTo S3x20x32x1920 (shapeCast S3x20x1x1920 (shapeCast S3x20x1920 (broadcastTo S3x20x60x32
    (k0_pay7 v) broadcasts_S3x20x60x1_S3x20x60x32) shapeCasts_S3x20x60x32_S3x20x1920)
    shapeCasts_S3x20x1920_S3x20x1x1920) broadcasts_S3x20x1x1920_S3x20x32x1920)) shapeCasts_S3x20x32x1920_S3x640x1920

theorem backY_apply (hv : IsArr y v) (b : Fin 3) (r : Fin 640) (c : Fin 1920) : backY v (ix3 b r c) = DQ y b.val r.val c.val := by
  unfold backY
  refine (shapeCast_apply _ _ _ (ix4 b (⟨r.val / 32, by omega⟩ : Fin 20) (⟨r.val % 32, by omega⟩ : Fin 32) c) (by
      rw [Shape.rowMajor_val_three, Shape.rowMajor_val_four]
      show ((b.val * 20 + r.val / 32) * 32 + r.val % 32) * 1920 + c.val = (b.val * 640 + r.val) * 1920 + c.val
      omega)).trans ?_
  rw [mulf_read, pay6_apply hv]
  unfold k0_pay7
  dsimp only
  rw [spread_apply (N := 60) (C := 1920) rfl (by norm_num) (by norm_num), truncf_read, pay3_apply hv]
  unfold DQ
  show QC y b.val (32 * (r.val / 32) + r.val % 32) c.val * SC y b.val (r.val / 32) (c.val / 32) = _
  rw [show 32 * (r.val / 32) + r.val % 32 = r.val by omega]

/-- The operand from its codes. -/
theorem pay5_apply {x s : ℕ → ℕ → ℕ → EReal} (X : Vec Ideal S3x640x2880 .i8) (S : Vec Ideal S3x20x90 .f32)
    (hX : IsArr x fun i => (((X i : BitVec 8).toInt : ℝ) : EReal)) (hS : IsArr s S) (b : Fin 3) (r : Fin 640) (d : Fin 2880) :
    k0_pay5 X S (ix3 b r d) = XD x s b.val r.val d.val := by
  unfold k0_pay5
  refine (shapeCast_apply _ _ _ (ix4 b (⟨r.val / 32, by omega⟩ : Fin 20) (⟨r.val % 32, by omega⟩ : Fin 32) d) (by
      rw [Shape.rowMajor_val_three, Shape.rowMajor_val_four]
      show ((b.val * 20 + r.val / 32) * 32 + r.val % 32) * 2880 + d.val = (b.val * 640 + r.val) * 2880 + d.val
      omega)).trans ?_
  rw [mulf_read, sitofp_vec, shapeCast_apply _ _ _ (ix3 b r d) (by
      rw [Shape.rowMajor_val_three, Shape.rowMajor_val_four]
      show (b.val * 640 + r.val) * 2880 + d.val = ((b.val * 20 + r.val / 32) * 32 + r.val % 32) * 2880 + d.val
      omega), spread_apply (N := 90) (C := 2880) rfl (by norm_num) (by norm_num), truncf_read, hS]
  unfold XD
  rw [← hX]

/-- The weight gradient. -/
theorem pay1_apply {x s : ℕ → ℕ → ℕ → EReal} (X : Vec Ideal S3x640x2880 .i8) (S : Vec Ideal S3x20x90 .f32)
    (hX : IsArr x fun i => (((X i : BitVec 8).toInt : ℝ) : EReal)) (hS : IsArr s S) (hv : IsArr y v) (d : Fin 2880) (c : Fin 1920) :
    k0_pay1 (k0_pay5 X S) (k0_pay6 v) (k0_pay7 v) (ix2 d c) = DW x s y d.val c.val := by
  have e : k0_pay1 (k0_pay5 X S) (k0_pay6 v) (k0_pay7 v) = matmul dot_S1920x2880_S1920x1920_S2880x1920_0_0_1_1_n_n none
      (shapeCast S1920x2880 (k0_pay5 X S) shapeCasts_S3x640x2880_S1920x2880) (shapeCast S1920x1920 (backY v) shapeCasts_S3x640x1920_S1920x1920)
      (constant S2880x1920 .f32 0x00000000#32) := rfl
  rw [e]
  refine (dot_rows_apply dot_S1920x2880_S1920x1920_S2880x1920_0_0_1_1_n_n_wf _ _ d c).trans ?_
  unfold DW
  refine Finset.sum_congr rfl fun k _ => ?_
  rw [shapeCast_apply (k0_pay5 X S) _ _ (ix3 (⟨k.val / 640, by omega⟩ : Fin 3) (⟨k.val % 640, by omega⟩ : Fin 640) d) (by
      rw [Shape.rowMajor_val_two, Shape.rowMajor_val_three]
      show (k.val / 640 * 640 + k.val % 640) * 2880 + d.val = k.val * 2880 + d.val
      omega),
    shapeCast_apply (backY v) _ _ (ix3 (⟨k.val / 640, by omega⟩ : Fin 3) (⟨k.val % 640, by omega⟩ : Fin 640) c) (by
      rw [Shape.rowMajor_val_two, Shape.rowMajor_val_three]
      show (k.val / 640 * 640 + k.val % 640) * 1920 + c.val = k.val * 1920 + c.val
      omega), pay5_apply X S hX hS, backY_apply hv]

end Cert.RefProof

end
-- ==== Proof.RefRun.lean ====
module

public import proofs.«01_k».proof.Proof.Ref
public import Idealize.ShloMosaic.Lib.Pipeline.ValueKit

@[expose] public section

set_option maxRecDepth 16384

noncomputable section

namespace Cert.RefProof

open Cert.ReferenceIdeal Cert.ReferenceIdeal.Gen Cert.Spec
open Idealize.ShloMosaic Idealize.ShloMosaic.TcCoe Idealize.ShloMosaic.Tactic
open Idealize.SL.Sem
open Idealize.ShloMosaic.Pipeline (Dat Cfg Window)
open Cert.Proof (ext3)

/-! # What the reference leaves in its results -/

variable (m : (ℓ : Loc nD τ sig) → Buf (Elt Ideal) ℓ) (ρ : Dev nD → PrngReg)

/-- The operands as the program finds them. -/
def xR (X : S3x640x2880.Idx → BitVec 8) : ℕ → ℕ → ℕ → EReal := ext3 fun i => (((X i).toInt : ℝ) : EReal)

/-- The three results as functions of three operands. -/
def dwR (x s y : ℕ → ℕ → ℕ → EReal) : S2880x1920.Idx → Elt Ideal .f32 := fun i => DW x s y (i 0).val (i 1).val
def qR (y : ℕ → ℕ → ℕ → EReal) : S3x640x1920.Idx → Elt Ideal .i8 := fun i => Ideal.fptosi 8 (QC y (i 0).val (i 1).val (i 2).val)
def scR (y : ℕ → ℕ → ℕ → EReal) : S3x20x60.Idx → Elt Ideal .f32 := fun i => SC y (i 0).val (i 1).val (i 2).val

theorem isArr_ext3 {p q r : ℕ} (X : (⟨3, ![p, q, r]⟩ : Shape).Idx → EReal) : IsArr (ext3 X) X := by
  intro b i k
  unfold ext3
  rw [dif_pos ⟨b.isLt, i.isLt, k.isLt⟩]

/-- The body's three stores, of whole buffers read whole. -/
theorem out_dw (X : Vec Ideal S3x640x2880 .i8) (S : Vec Ideal S3x20x90 .f32) (Y : Vec Ideal S3x640x1920 .bf16) :
    out0_3 X S Y = dwR (xR X) (ext3 (S : S3x20x90.Idx → EReal)) (ext3 (Y : S3x640x1920.Idx → EReal)) := by
  have hz0 : (![0, 0, 0] : Fin S3x640x2880.rank → Nat) = fun _ => 0 := funext fun a => by fin_cases a <;> rfl
  have hz1 : (![0, 0, 0] : Fin S3x20x90.rank → Nat) = fun _ => 0 := funext fun a => by fin_cases a <;> rfl
  have hz2 : (![0, 0, 0] : Fin S3x640x1920.rank → Nat) = fun _ => 0 := funext fun a => by fin_cases a <;> rfl
  have hz3 : (![0, 0] : Fin S2880x1920.rank → Nat) = fun _ => 0 := funext fun a => by fin_cases a <;> rfl
  unfold out0_3
  rw [View.canon_unit_zero hz3, View.ld_unit_zero hz0, View.ld_unit_zero hz1, View.ld_unit_zero hz2]
  funext i
  obtain ⟨d, c, rfl⟩ : ∃ d c, i = ix2 d c := ⟨_, _, eq_ix2 i⟩
  exact pay1_apply X S (isArr_ext3 _) (isArr_ext3 _) (isArr_ext3 _) d c

theorem out_codes (X : Vec Ideal S3x640x2880 .i8) (S : Vec Ideal S3x20x90 .f32) (Y : Vec Ideal S3x640x1920 .bf16) :
    out0_4 X S Y = qR (ext3 (Y : S3x640x1920.Idx → EReal)) := by
  have hz2 : (![0, 0, 0] : Fin S3x640x1920.rank → Nat) = fun _ => 0 := funext fun a => by fin_cases a <;> rfl
  unfold out0_4
  rw [View.canon_unit_zero hz2, View.ld_unit_zero hz2]
  funext i
  obtain ⟨b, r, c, rfl⟩ : ∃ b r c, i = ix3 b r c := ⟨_, _, _, eq_ix3 i⟩
  exact pay4_apply (isArr_ext3 _) b r c

theorem out_scales (X : Vec Ideal S3x640x2880 .i8) (S : Vec Ideal S3x20x90 .f32) (Y : Vec Ideal S3x640x1920 .bf16) :
    out0_5 X S Y = scR (ext3 (Y : S3x640x1920.Idx → EReal)) := by
  have hz2 : (![0, 0, 0] : Fin S3x640x1920.rank → Nat) = fun _ => 0 := funext fun a => by fin_cases a <;> rfl
  have hz4 : (![0, 0, 0] : Fin S3x20x60.rank → Nat) = fun _ => 0 := funext fun a => by fin_cases a <;> rfl
  unfold out0_5
  rw [View.canon_unit_zero hz4, View.ld_unit_zero hz2]
  funext i
  obtain ⟨b, g, h, rfl⟩ : ∃ b g h, i = ix3 b g h := ⟨_, _, _, eq_ix3 i⟩
  exact pay3_apply (isArr_ext3 _) b g h

theorem one_point (t : Fin cfg0.N) : t = ⟨0, by decide⟩ := by
  have h : cfg0.N = 1 := by decide
  apply Fin.ext; have := t.isLt; show t.val = 0; omega

/-- Every block is the whole array. -/
theorem iblk_0 (c : Dev nD) (t : Fin cfg0.N) : (iblk m c 0 t : S3x640x2880.Idx → BitVec 8) = m ((c : Thread nD τ).loc main_arg0) := by
  funext j
  show (m ((c : Thread nD τ).loc main_arg0) : S3x640x2880.Idx → BitVec 8) ((win0_0.rect t).emb j) = _
  refine congrArg (m ((c : Thread nD τ).loc main_arg0) : S3x640x2880.Idx → BitVec 8) ?_
  funext a; apply Fin.ext
  have hz : ∀ a, win0_0.index t a = 0 := by rw [one_point t]; decide +kernel
  exact win0_0.rect_emb_val_of_index_zero t a (hz a) j

theorem iblk_1 (c : Dev nD) (t : Fin cfg0.N) : (iblk m c 1 t : S3x20x90.Idx → EReal) = m ((c : Thread nD τ).loc main_arg1) := by
  funext j
  show (m ((c : Thread nD τ).loc main_arg1) : S3x20x90.Idx → EReal) ((win0_1.rect t).emb j) = _
  refine congrArg (m ((c : Thread nD τ).loc main_arg1) : S3x20x90.Idx → EReal) ?_
  funext a; apply Fin.ext
  have hz : ∀ a, win0_1.index t a = 0 := by rw [one_point t]; decide +kernel
  exact win0_1.rect_emb_val_of_index_zero t a (hz a) j

theorem iblk_2 (c : Dev nD) (t : Fin cfg0.N) : (iblk m c 2 t : S3x640x1920.Idx → EReal) = m ((c : Thread nD τ).loc main_arg2) := by
  funext j
  show (m ((c : Thread nD τ).loc main_arg2) : S3x640x1920.Idx → EReal) ((win0_2.rect t).emb j) = _
  refine congrArg (m ((c : Thread nD τ).loc main_arg2) : S3x640x1920.Idx → EReal) ?_
  funext a; apply Fin.ext
  have hz : ∀ a, win0_2.index t a = 0 := by rw [one_point t]; decide +kernel
  exact win0_2.rect_emb_val_of_index_zero t a (hz a) j

/-- The operands by natural indices, as launched. -/
abbrev xA (c : Dev nD) : ℕ → ℕ → ℕ → EReal := xR (m ((c : Thread nD τ).loc main_arg0))
abbrev sA (c : Dev nD) : ℕ → ℕ → ℕ → EReal := ext3 (m ((c : Thread nD τ).loc main_arg1) : S3x20x90.Idx → EReal)
abbrev yA (c : Dev nD) : ℕ → ℕ → ℕ → EReal := ext3 (m ((c : Thread nD τ).loc main_arg2) : S3x640x1920.Idx → EReal)

theorem left_dw (c : Dev nD) (t : Fin cfg0.N) : (dats m 0 c).after 3 t = dwR (xA m c) (sA m c) (yA m c) := by
  refine (after0_3 m c t).trans ((out_dw _ _ _).trans ?_)
  exact congr (congrArg₂ dwR (congrArg xR (iblk_0 m c t)) (congrArg ext3 (iblk_1 m c t))) (congrArg ext3 (iblk_2 m c t))

theorem left_codes (c : Dev nD) (t : Fin cfg0.N) : (dats m 0 c).after 4 t = qR (yA m c) :=
  (after0_4 m c t).trans ((out_codes _ _ _).trans (congrArg (fun z => qR (ext3 z)) (iblk_2 m c t)))

theorem left_scales (c : Dev nD) (t : Fin cfg0.N) : (dats m 0 c).after 5 t = scR (yA m c) :=
  (after0_5 m c t).trans ((out_scales _ _ _).trans (congrArg (fun z => scR (ext3 z)) (iblk_2 m c t)))

theorem arr_dw (c : Dev nD) : (dats m 0 c).arrAt 3 cfg0.N = dwR (xA m c) (sA m c) (yA m c) := by
  refine (dats m 0 c).arrAt_eq_of_covers 3 _ (by decide +kernel) fun t _ y => ?_
  have hz : ∀ a, win0_3.index t a = 0 := by rw [one_point t]; decide +kernel
  refine (congrFun (left_dw m c t) _).trans ?_
  refine congrArg (dwR (xA m c) (sA m c) (yA m c)) ?_
  funext a; apply Fin.ext
  exact (win0_3.rect_emb_val_of_index_zero t a (hz a) y).symm

theorem arr_codes (c : Dev nD) : (dats m 0 c).arrAt 4 cfg0.N = qR (yA m c) := by
  refine (dats m 0 c).arrAt_eq_of_covers 4 _ (by decide +kernel) fun t _ y => ?_
  have hz : ∀ a, win0_4.index t a = 0 := by rw [one_point t]; decide +kernel
  refine (congrFun (left_codes m c t) _).trans ?_
  refine congrArg (qR (yA m c)) ?_
  funext a; apply Fin.ext
  exact (win0_4.rect_emb_val_of_index_zero t a (hz a) y).symm

theorem arr_scales (c : Dev nD) : (dats m 0 c).arrAt 5 cfg0.N = scR (yA m c) := by
  refine (dats m 0 c).arrAt_eq_of_covers 5 _ (by decide +kernel) fun t _ y => ?_
  have hz : ∀ a, win0_5.index t a = 0 := by rw [one_point t]; decide +kernel
  refine (congrFun (left_scales m c t) _).trans ?_
  refine congrArg (scR (yA m c)) ?_
  funext a; apply Fin.ext
  exact (win0_5.rect_emb_val_of_index_zero t a (hz a) y).symm

/-- The run: every execution terminates, the results hold the three functions of the arguments, the arguments are
    unchanged. -/
theorem run_value :
    θ_run defs (onTc (τ := τ) (main (F := Ideal))) ⟨m, fun _ => 0, ρ⟩ (fun r => ∀ c : Dev nD,
      r.2.mem ((c.tc : Thread nD τ).loc main_v0_0) = dwR (xA m c) (sA m c) (yA m c)
      ∧ r.2.mem ((c.tc : Thread nD τ).loc main_v0_1) = qR (yA m c)
      ∧ r.2.mem ((c.tc : Thread nD τ).loc main_v0_2) = scR (yA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (arr_dw m c), ((h c).1 4).trans (arr_codes m c), ((h c).1 5).trans (arr_scales m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.RefProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Value
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The two programs' results are the same functions of the same arguments. -/
theorem results_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    RefProof.xA m' c = xG m c ∧ RefProof.sA m' c = sG m c ∧ RefProof.yA m' c = yG m c :=
  ⟨(congrArg RefProof.xR h0).trans (xG_eq m c).symm,
    (congrArg (fun X : Cert.ReferenceIdeal.S3x20x90.Idx → EReal => ext3 X) h1).trans (sG_eq m c).symm,
    (congrArg (fun X : Cert.ReferenceIdeal.S3x640x1920.Idx → EReal => ext3 X) h2).trans (yG_eq m c).symm⟩

theorem algebraic : Cert.algebraic_KernelIdeal_ReferenceIdeal := by
  intro m g m' g' _ hargs
  refine ⟨fun c => dwOf (xG m c) (sG m c) (yG m c), fun c => qOf (yG m c), fun c => scOf (yG m c), ?_, ?_⟩
  · exact (θ_run _ _ _).mono (fun _ h => h.1) (run_main m g)
  · refine (θ_run _ _ _).mono (fun _ h c => ?_) (RefProof.run_value m' g')
    obtain ⟨r0, r1, r2, a0, a1, a2⟩ := h c
    obtain ⟨ex, es, ey⟩ := results_eq m m' c (hargs c).1 (hargs c).2.1 (hargs c).2.2
    exact ⟨r0.trans (congr (congrArg₂ RefProof.dwR ex es) ey), r1.trans (congrArg RefProof.qR ey), r2.trans (congrArg RefProof.scR ey),
      a0, a1, a2⟩

theorem claim : Cert.Claim := ⟨Cert.Kernel.Gen.facts, Cert.KernelIdeal.Gen.facts, Cert.ReferenceIdeal.Gen.facts,
  fun m ρ _ => Cert.KernelFrame.frame m ρ,
  fun m ρ _ => (θ_run _ _ _).mono (fun _ h => ⟨fun c => (h.1 c).2.2.2, h.2⟩) (run_main m ρ),
  fun m ρ _ => Cert.ReferenceIdeal.Gen.frame m ρ,
  IdealRules.named_const.statement Cert.KernelIdeal.κ "inv_127" .f32 0x3C010204#32 ((1 / 127 : ℝ) : EReal) rfl,
  algebraic⟩

end Cert.Proof

end
